-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S4096x2048 : Shape := ⟨2, ![4096, 2048]⟩
abbrev S2x128x2048 : Shape := ⟨3, ![2, 128, 2048]⟩
abbrev S128x2048 : Shape := ⟨2, ![128, 2048]⟩
abbrev S4 : Shape := ⟨1, ![4]⟩
abbrev S4x2 : Shape := ⟨2, ![4, 2]⟩
abbrev S7 : Shape := ⟨1, ![7]⟩
abbrev S_ : Shape := ⟨0, ![]⟩
abbrev S512x512 : Shape := ⟨2, ![512, 512]⟩
abbrev S1x1 : Shape := ⟨2, ![1, 1]⟩
abbrev S1x128x2048 : Shape := ⟨3, ![1, 128, 2048]⟩

abbrev nBuf : Space → Nat
  | .hbm => 5
  | .vmem => 12
  | .smem => 2
  | _ => 0

abbrev bufTy : (tb : Table) → Fin (tcTables nBuf tb) → BufTy
  | .hbm, ⟨0, _⟩ => ⟨S4096x512, .fp8e4m3⟩
  | .hbm, ⟨1, _⟩ => ⟨S512x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x512, .fp8e4m3⟩
  | .local _ .vmem, ⟨1, _⟩ => ⟨S512x2048, .fp8e5m2⟩
  | .local _ .vmem, ⟨2, _⟩ => ⟨S4096x2048, .f32⟩
  | .local _ .vmem, ⟨3, _⟩ => ⟨S4096x2048, .bf16⟩
  | .local _ .vmem, ⟨4, _⟩ => ⟨S2x128x2048, .bf16⟩
  | .local _ .vmem, ⟨5, _⟩ => ⟨S2x128x2048, .bf16⟩
  | .local _ .vmem, ⟨6, _⟩ => ⟨S2x128x2048, .bf16⟩
  | .local _ .vmem, ⟨7, _⟩ => ⟨S2x128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 5 49 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v13 : BitVec 32 := Scalar.muli v2 c512_i32
  let v14 : Index := Scalar.indexCast v13
  let c0 : Index := 0#32
  ![v14.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_12 : BitVec 32 := 512#32
  let v22 : BitVec 32 := Scalar.muli v2 c512_i32_12
  let v23 : Index := Scalar.indexCast v22
  let c0_13 : Index := 0#32
  ![v23.toNat, 0]
def k0_off3 (d0 : Dev nD) (c0_i32_15 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_14 : BitVec 32 := 512#32
  let v25 : BitVec 32 := Scalar.muli v2 c512_i32_14
  let v26 : BitVec 32 := Scalar.addi v25 c0_i32_15
  let v27 : Index := Scalar.indexCast v26
  let c0_16 : Index := 0#32
  ![v27.toNat, 0]
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_35 : BitVec 32 := 1#32
  let v61 : BitVec 32 := Scalar.muli v7 c1_i32_35
  let v62 : BitVec 32 := Scalar.addi c0_i32_36 v61
  v62.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_43 : BitVec 32 := 1#32
  let v69 : BitVec 32 := Scalar.muli v5 c1_i32_43
  let v70 : BitVec 32 := Scalar.addi c0_i32_44 v69
  v70.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_51 : BitVec 32 := 1#32
  let v77 : BitVec 32 := Scalar.muli v7 c1_i32_51
  let v78 : BitVec 32 := Scalar.addi c0_i32_52 v77
  v78.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_58 : BitVec 32 := 1#32
  let v85 : BitVec 32 := Scalar.muli v5 c1_i32_58
  let v86 : BitVec 32 := Scalar.addi c0_i32_59 v85
  v86.toNat
def k0_off4 (d0 : Dev nD) (c1_i32_62 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v93 : BitVec 32 := Scalar.addi v2 c1_i32_62
  let c8_i32_63 : BitVec 32 := 8#32
  let v94 : BitVec 32 := Scalar.remsi v93 c8_i32_63
  let c512_i32_64 : BitVec 32 := 512#32
  let v95 : BitVec 32 := Scalar.muli v94 c512_i32_64
  let v96 : Index := Scalar.indexCast v95
  let c0_65 : Index := 0#32
  ![v96.toNat, 0]
def k0_off5 (d0 : Dev nD) (c1_i32_62 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v93 : BitVec 32 := Scalar.addi v2 c1_i32_62
  let c8_i32_63 : BitVec 32 := 8#32
  let v94 : BitVec 32 := Scalar.remsi v93 c8_i32_63
  let c512_i32_69 : BitVec 32 := 512#32
  let v104 : BitVec 32 := Scalar.muli v94 c512_i32_69
  let v105 : Index := Scalar.indexCast v104
  let c0_70 : Index := 0#32
  ![v105.toNat, 0]
def k0_off6 (d0 : Dev nD) (c0_i32_131 : BitVec 32) (c0_i32_136 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v200 : BitVec 32 := Scalar.subi v2 c0_i32_131
  let c1_i32_132 : BitVec 32 := 1#32
  let v201 : BitVec 32 := Scalar.subi v200 c1_i32_132
  let c8_i32_133 : BitVec 32 := 8#32
  let v202 : BitVec 32 := Scalar.addi v201 c8_i32_133
  let c8_i32_134 : BitVec 32 := 8#32
  let v203 : BitVec 32 := Scalar.remsi v202 c8_i32_134
  let c512_i32_135 : BitVec 32 := 512#32
  let v204 : BitVec 32 := Scalar.muli v203 c512_i32_135
  let v205 : BitVec 32 := Scalar.addi v204 c0_i32_136
  let v206 : Index := Scalar.indexCast v205
  let c0_137 : Index := 0#32
  ![v206.toNat, 0]
def k0_dev7 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_152 : BitVec 32 := 1#32
  let v223 : BitVec 32 := Scalar.muli v5 c1_i32_152
  let v224 : BitVec 32 := Scalar.addi c0_i32_153 v223
  v224.toNat
def k0_dev8 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_158 : BitVec 32 := 1#32
  let v225 : BitVec 32 := Scalar.muli v7 c1_i32_158
  let v226 : BitVec 32 := Scalar.addi c0_i32_159 v225
  v226.toNat
def k0_off7 (d0 : Dev nD) (c0_i32_170 : BitVec 32) (c256_i32_174 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v239 : BitVec 32 := Scalar.addi v2 c0_i32_170
  let c1_i32_171 : BitVec 32 := 1#32
  let v240 : BitVec 32 := Scalar.addi v239 c1_i32_171
  let c8_i32_172 : BitVec 32 := 8#32
  let v241 : BitVec 32 := Scalar.remsi v240 c8_i32_172
  let c512_i32_173 : BitVec 32 := 512#32
  let v242 : BitVec 32 := Scalar.muli v241 c512_i32_173
  let v243 : BitVec 32 := Scalar.addi v242 c256_i32_174
  let v244 : Index := Scalar.indexCast v243
  let c0_175 : Index := 0#32
  ![v244.toNat, 0]
def k0_dev9 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_190 : BitVec 32 := 1#32
  let v261 : BitVec 32 := Scalar.muli v7 c1_i32_190
  let v262 : BitVec 32 := Scalar.addi c0_i32_191 v261
  v262.toNat
def k0_dev10 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_196 : BitVec 32 := 1#32
  let v263 : BitVec 32 := Scalar.muli v5 c1_i32_196
  let v264 : BitVec 32 := Scalar.addi c0_i32_197 v263
  v264.toNat
def k0_dev11 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_229 : BitVec 32 := 1#32
  let v300 : BitVec 32 := Scalar.muli v5 c1_i32_229
  let v301 : BitVec 32 := Scalar.addi c0_i32_230 v300
  v301.toNat
def k0_dev12 (d0 : Dev nD) : Nat :=
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_235 : BitVec 32 := 1#32
  let v302 : BitVec 32 := Scalar.muli v7 c1_i32_235
  let v303 : BitVec 32 := Scalar.addi c0_i32_236 v302
  v303.toNat
def k0_dev13 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_267 : BitVec 32 := 1#32
  let v338 : BitVec 32 := Scalar.muli v7 c1_i32_267
  let v339 : BitVec 32 := Scalar.addi c0_i32_268 v338
  v339.toNat
def k0_dev14 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_273 : BitVec 32 := 1#32
  let v340 : BitVec 32 := Scalar.muli v5 c1_i32_273
  let v341 : BitVec 32 := Scalar.addi c0_i32_274 v340
  v341.toNat
def k0_dev15 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_305 : BitVec 32 := 1#32
  let v377 : BitVec 32 := Scalar.muli v5 c1_i32_305
  let v378 : BitVec 32 := Scalar.addi c0_i32_306 v377
  v378.toNat
def k0_dev16 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_314 : BitVec 32 := 1#32
  let v381 : BitVec 32 := Scalar.muli v7 c1_i32_314
  let v382 : BitVec 32 := Scalar.addi c0_i32_315 v381
  v382.toNat
def k0_dev17 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_346 : BitVec 32 := 1#32
  let v417 : BitVec 32 := Scalar.muli v7 c1_i32_346
  let v418 : BitVec 32 := Scalar.addi c0_i32_347 v417
  v418.toNat
def k0_dev18 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_355 : BitVec 32 := 1#32
  let v421 : BitVec 32 := Scalar.muli v5 c1_i32_355
  let v422 : BitVec 32 := Scalar.addi c0_i32_356 v421
  v422.toNat
def k0_dev19 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_388 : BitVec 32 := 1#32
  let v458 : BitVec 32 := Scalar.muli v5 c1_i32_388
  let v459 : BitVec 32 := Scalar.addi c0_i32_389 v458
  v459.toNat
def k0_dev20 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_397 : BitVec 32 := 1#32
  let v462 : BitVec 32 := Scalar.muli v7 c1_i32_397
  let v463 : BitVec 32 := Scalar.addi c0_i32_398 v462
  v463.toNat
def k0_dev21 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_429 : BitVec 32 := 1#32
  let v498 : BitVec 32 := Scalar.muli v7 c1_i32_429
  let v499 : BitVec 32 := Scalar.addi c0_i32_430 v498
  v499.toNat
def k0_dev22 (d0 : Dev nD) : Nat :=
  let c0_i32_439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_438 : BitVec 32 := 1#32
  let v502 : BitVec 32 := Scalar.muli v5 c1_i32_438
  let v503 : BitVec 32 := Scalar.addi c0_i32_439 v502
  v503.toNat
def k0_dev23 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_471 : BitVec 32 := 1#32
  let v539 : BitVec 32 := Scalar.muli v5 c1_i32_471
  let v540 : BitVec 32 := Scalar.addi c0_i32_472 v539
  v540.toNat
def k0_dev24 (d0 : Dev nD) : Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_480 : BitVec 32 := 1#32
  let v543 : BitVec 32 := Scalar.muli v7 c1_i32_480
  let v544 : BitVec 32 := Scalar.addi c0_i32_481 v543
  v544.toNat
def k0_dev25 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_512 : BitVec 32 := 1#32
  let v579 : BitVec 32 := Scalar.muli v7 c1_i32_512
  let v580 : BitVec 32 := Scalar.addi c0_i32_513 v579
  v580.toNat
def k0_dev26 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_521 : BitVec 32 := 1#32
  let v583 : BitVec 32 := Scalar.muli v5 c1_i32_521
  let v584 : BitVec 32 := Scalar.addi c0_i32_522 v583
  v584.toNat
def k0_dev27 (d0 : Dev nD) : Nat :=
  let c0_i32_555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_554 : BitVec 32 := 1#32
  let v620 : BitVec 32 := Scalar.muli v5 c1_i32_554
  let v621 : BitVec 32 := Scalar.addi c0_i32_555 v620
  v621.toNat
def k0_dev28 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_563 : BitVec 32 := 1#32
  let v624 : BitVec 32 := Scalar.muli v7 c1_i32_563
  let v625 : BitVec 32 := Scalar.addi c0_i32_564 v624
  v625.toNat
def k0_dev29 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_595 : BitVec 32 := 1#32
  let v660 : BitVec 32 := Scalar.muli v7 c1_i32_595
  let v661 : BitVec 32 := Scalar.addi c0_i32_596 v660
  v661.toNat
def k0_dev30 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_604 : BitVec 32 := 1#32
  let v664 : BitVec 32 := Scalar.muli v5 c1_i32_604
  let v665 : BitVec 32 := Scalar.addi c0_i32_605 v664
  v665.toNat
def k0_dev31 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_637 : BitVec 32 := 1#32
  let v701 : BitVec 32 := Scalar.muli v5 c1_i32_637
  let v702 : BitVec 32 := Scalar.addi c0_i32_638 v701
  v702.toNat
def k0_dev32 (d0 : Dev nD) : Nat :=
  let c0_i32_647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_646 : BitVec 32 := 1#32
  let v705 : BitVec 32 := Scalar.muli v7 c1_i32_646
  let v706 : BitVec 32 := Scalar.addi c0_i32_647 v705
  v706.toNat
def k0_dev33 (d0 : Dev nD) : Nat :=
  let c0_i32_679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_678 : BitVec 32 := 1#32
  let v741 : BitVec 32 := Scalar.muli v7 c1_i32_678
  let v742 : BitVec 32 := Scalar.addi c0_i32_679 v741
  v742.toNat
def k0_dev34 (d0 : Dev nD) : Nat :=
  let c0_i32_688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_687 : BitVec 32 := 1#32
  let v745 : BitVec 32 := Scalar.muli v5 c1_i32_687
  let v746 : BitVec 32 := Scalar.addi c0_i32_688 v745
  v746.toNat
def k0_dev35 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_720 : BitVec 32 := 1#32
  let v782 : BitVec 32 := Scalar.muli v5 c1_i32_720
  let v783 : BitVec 32 := Scalar.addi c0_i32_721 v782
  v783.toNat
def k0_dev36 (d0 : Dev nD) : Nat :=
  let c0_i32_730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_729 : BitVec 32 := 1#32
  let v786 : BitVec 32 := Scalar.muli v7 c1_i32_729
  let v787 : BitVec 32 := Scalar.addi c0_i32_730 v786
  v787.toNat
def k0_dev37 (d0 : Dev nD) : Nat :=
  let c0_i32_762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_761 : BitVec 32 := 1#32
  let v822 : BitVec 32 := Scalar.muli v7 c1_i32_761
  let v823 : BitVec 32 := Scalar.addi c0_i32_762 v822
  v823.toNat
def k0_dev38 (d0 : Dev nD) : Nat :=
  let c0_i32_771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_770 : BitVec 32 := 1#32
  let v826 : BitVec 32 := Scalar.muli v5 c1_i32_770
  let v827 : BitVec 32 := Scalar.addi c0_i32_771 v826
  v827.toNat
def k0_dev39 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_803 : BitVec 32 := 1#32
  let v863 : BitVec 32 := Scalar.muli v5 c1_i32_803
  let v864 : BitVec 32 := Scalar.addi c0_i32_804 v863
  v864.toNat
def k0_dev40 (d0 : Dev nD) : Nat :=
  let c0_i32_813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_812 : BitVec 32 := 1#32
  let v867 : BitVec 32 := Scalar.muli v7 c1_i32_812
  let v868 : BitVec 32 := Scalar.addi c0_i32_813 v867
  v868.toNat
def k0_dev41 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_844 : BitVec 32 := 1#32
  let v903 : BitVec 32 := Scalar.muli v7 c1_i32_844
  let v904 : BitVec 32 := Scalar.addi c0_i32_845 v903
  v904.toNat
def k0_dev42 (d0 : Dev nD) : Nat :=
  let c0_i32_854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_853 : BitVec 32 := 1#32
  let v907 : BitVec 32 := Scalar.muli v5 c1_i32_853
  let v908 : BitVec 32 := Scalar.addi c0_i32_854 v907
  v908.toNat
def k0_dev43 (d0 : Dev nD) : Nat :=
  let c0_i32_887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_886 : BitVec 32 := 1#32
  let v944 : BitVec 32 := Scalar.muli v5 c1_i32_886
  let v945 : BitVec 32 := Scalar.addi c0_i32_887 v944
  v945.toNat
def k0_dev44 (d0 : Dev nD) : Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_895 : BitVec 32 := 1#32
  let v948 : BitVec 32 := Scalar.muli v7 c1_i32_895
  let v949 : BitVec 32 := Scalar.addi c0_i32_896 v948
  v949.toNat
def k0_dev45 (d0 : Dev nD) : Nat :=
  let c0_i32_928 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_927 : BitVec 32 := 1#32
  let v984 : BitVec 32 := Scalar.muli v7 c1_i32_927
  let v985 : BitVec 32 := Scalar.addi c0_i32_928 v984
  v985.toNat
def k0_dev46 (d0 : Dev nD) : Nat :=
  let c0_i32_937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_936 : BitVec 32 := 1#32
  let v988 : BitVec 32 := Scalar.muli v5 c1_i32_936
  let v989 : BitVec 32 := Scalar.addi c0_i32_937 v988
  v989.toNat
def k0_dev47 (d0 : Dev nD) : Nat :=
  let c0_i32_970 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_969 : BitVec 32 := 1#32
  let v1025 : BitVec 32 := Scalar.muli v5 c1_i32_969
  let v1026 : BitVec 32 := Scalar.addi c0_i32_970 v1025
  v1026.toNat
def k0_dev48 (d0 : Dev nD) : Nat :=
  let c0_i32_979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_978 : BitVec 32 := 1#32
  let v1029 : BitVec 32 := Scalar.muli v7 c1_i32_978
  let v1030 : BitVec 32 := Scalar.addi c0_i32_979 v1029
  v1030.toNat
def k0_dev49 (d0 : Dev nD) : Nat :=
  let c0_i32_1011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1010 : BitVec 32 := 1#32
  let v1065 : BitVec 32 := Scalar.muli v7 c1_i32_1010
  let v1066 : BitVec 32 := Scalar.addi c0_i32_1011 v1065
  v1066.toNat
def k0_dev50 (d0 : Dev nD) : Nat :=
  let c0_i32_1020 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1019 : BitVec 32 := 1#32
  let v1069 : BitVec 32 := Scalar.muli v5 c1_i32_1019
  let v1070 : BitVec 32 := Scalar.addi c0_i32_1020 v1069
  v1070.toNat
def k0_dev51 (d0 : Dev nD) : Nat :=
  let c0_i32_1053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1052 : BitVec 32 := 1#32
  let v1106 : BitVec 32 := Scalar.muli v5 c1_i32_1052
  let v1107 : BitVec 32 := Scalar.addi c0_i32_1053 v1106
  v1107.toNat
def k0_dev52 (d0 : Dev nD) : Nat :=
  let c0_i32_1062 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1061 : BitVec 32 := 1#32
  let v1110 : BitVec 32 := Scalar.muli v7 c1_i32_1061
  let v1111 : BitVec 32 := Scalar.addi c0_i32_1062 v1110
  v1111.toNat
def k0_dev53 (d0 : Dev nD) : Nat :=
  let c0_i32_1094 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1093 : BitVec 32 := 1#32
  let v1146 : BitVec 32 := Scalar.muli v7 c1_i32_1093
  let v1147 : BitVec 32 := Scalar.addi c0_i32_1094 v1146
  v1147.toNat
def k0_dev54 (d0 : Dev nD) : Nat :=
  let c0_i32_1103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1102 : BitVec 32 := 1#32
  let v1150 : BitVec 32 := Scalar.muli v5 c1_i32_1102
  let v1151 : BitVec 32 := Scalar.addi c0_i32_1103 v1150
  v1151.toNat
def k0_off8 (d0 : Dev nD) (c0_i32_1132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c512_i32_1131 : BitVec 32 := 512#32
  let v1182 : BitVec 32 := Scalar.muli v7 c512_i32_1131
  let v1183 : BitVec 32 := Scalar.addi v1182 c0_i32_1132
  let v1184 : Index := Scalar.indexCast v1183
  let c0_1133 : Index := 0#32
  ![v1184.toNat, 0]
def k0_dev55 (d0 : Dev nD) : Nat :=
  let c0_i32_1137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1136 : BitVec 32 := 1#32
  let v1190 : BitVec 32 := Scalar.muli v5 c1_i32_1136
  let v1191 : BitVec 32 := Scalar.addi c0_i32_1137 v1190
  v1191.toNat
def k0_off9 (d0 : Dev nD) (c0_i32_1139 : BitVec 32) (c0_i32_1145 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1138 : BitVec 32 := 1#32
  let v1192 : BitVec 32 := Scalar.addi v2 c1_i32_1138
  let v1193 : BitVec 32 := Scalar.subi v1192 c0_i32_1139
  let c8_i32_1140 : BitVec 32 := 8#32
  let v1194 : BitVec 32 := Scalar.addi v1193 c8_i32_1140
  let c8_i32_1141 : BitVec 32 := 8#32
  let v1195 : BitVec 32 := Scalar.remsi v1194 c8_i32_1141
  let c512_i32_1144 : BitVec 32 := 512#32
  let v1198 : BitVec 32 := Scalar.muli v1195 c512_i32_1144
  let v1199 : BitVec 32 := Scalar.addi v1198 c0_i32_1145
  let c0_i32_1150 : BitVec 32 := 0#32
  ![v1199.toNat, 0]
def k0_dev56 (d0 : Dev nD) : Nat :=
  let c0_i32_1149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1148 : BitVec 32 := 1#32
  let v1200 : BitVec 32 := Scalar.muli v7 c1_i32_1148
  let v1201 : BitVec 32 := Scalar.addi c0_i32_1149 v1200
  v1201.toNat
def k0_off10 (d0 : Dev nD) (c256_i32_1184 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c512_i32_1183 : BitVec 32 := 512#32
  let v1244 : BitVec 32 := Scalar.muli v5 c512_i32_1183
  let v1245 : BitVec 32 := Scalar.addi v1244 c256_i32_1184
  let v1246 : Index := Scalar.indexCast v1245
  let c0_1185 : Index := 0#32
  ![v1246.toNat, 0]
def k0_dev57 (d0 : Dev nD) : Nat :=
  let c0_i32_1189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1188 : BitVec 32 := 1#32
  let v1252 : BitVec 32 := Scalar.muli v7 c1_i32_1188
  let v1253 : BitVec 32 := Scalar.addi c0_i32_1189 v1252
  v1253.toNat
def k0_off11 (d0 : Dev nD) (c0_i32_1191 : BitVec 32) (c256_i32_1197 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1190 : BitVec 32 := 1#32
  let v1254 : BitVec 32 := Scalar.subi v2 c1_i32_1190
  let v1255 : BitVec 32 := Scalar.addi v1254 c0_i32_1191
  let c8_i32_1192 : BitVec 32 := 8#32
  let v1256 : BitVec 32 := Scalar.addi v1255 c8_i32_1192
  let c8_i32_1193 : BitVec 32 := 8#32
  let v1257 : BitVec 32 := Scalar.remsi v1256 c8_i32_1193
  let c512_i32_1196 : BitVec 32 := 512#32
  let v1260 : BitVec 32 := Scalar.muli v1257 c512_i32_1196
  let v1261 : BitVec 32 := Scalar.addi v1260 c256_i32_1197
  let c0_i32_1202 : BitVec 32 := 0#32
  ![v1261.toNat, 0]
def k0_dev58 (d0 : Dev nD) : Nat :=
  let c0_i32_1201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1200 : BitVec 32 := 1#32
  let v1262 : BitVec 32 := Scalar.muli v5 c1_i32_1200
  let v1263 : BitVec 32 := Scalar.addi c0_i32_1201 v1262
  v1263.toNat
def k0_dev59 (d0 : Dev nD) : Nat :=
  let c0_i32_1242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1241 : BitVec 32 := 1#32
  let v1315 : BitVec 32 := Scalar.muli v5 c1_i32_1241
  let v1316 : BitVec 32 := Scalar.addi c0_i32_1242 v1315
  v1316.toNat
def k0_dev60 (d0 : Dev nD) : Nat :=
  let c0_i32_1254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1253 : BitVec 32 := 1#32
  let v1325 : BitVec 32 := Scalar.muli v7 c1_i32_1253
  let v1326 : BitVec 32 := Scalar.addi c0_i32_1254 v1325
  v1326.toNat
def k0_dev61 (d0 : Dev nD) : Nat :=
  let c0_i32_1294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1293 : BitVec 32 := 1#32
  let v1377 : BitVec 32 := Scalar.muli v7 c1_i32_1293
  let v1378 : BitVec 32 := Scalar.addi c0_i32_1294 v1377
  v1378.toNat
def k0_dev62 (d0 : Dev nD) : Nat :=
  let c0_i32_1306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1305 : BitVec 32 := 1#32
  let v1387 : BitVec 32 := Scalar.muli v5 c1_i32_1305
  let v1388 : BitVec 32 := Scalar.addi c0_i32_1306 v1387
  v1388.toNat
def k0_dev63 (d0 : Dev nD) : Nat :=
  let c0_i32_1354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1353 : BitVec 32 := 1#32
  let v1438 : BitVec 32 := Scalar.muli v7 c1_i32_1353
  let v1439 : BitVec 32 := Scalar.addi c0_i32_1354 v1438
  v1439.toNat
def k0_off12 (d0 : Dev nD) (c1_i32_1340 : BitVec 32) (c0_i32_1358 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1339 : BitVec 32 := 1#32
  let v1426 : BitVec 32 := Scalar.addi v2 c1_i32_1339
  let v1427 : BitVec 32 := Scalar.subi v1426 c1_i32_1340
  let c8_i32_1341 : BitVec 32 := 8#32
  let v1428 : BitVec 32 := Scalar.addi v1427 c8_i32_1341
  let c8_i32_1342 : BitVec 32 := 8#32
  let v1429 : BitVec 32 := Scalar.remsi v1428 c8_i32_1342
  let c512_i32_1357 : BitVec 32 := 512#32
  let v1446 : BitVec 32 := Scalar.muli v1429 c512_i32_1357
  let v1447 : BitVec 32 := Scalar.addi v1446 c0_i32_1358
  let v1448 : Index := Scalar.indexCast v1447
  let c0_1359 : Index := 0#32
  ![v1448.toNat, 0]
def k0_dev64 (d0 : Dev nD) : Nat :=
  let c0_i32_1390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1389 : BitVec 32 := 1#32
  let v1481 : BitVec 32 := Scalar.muli v5 c1_i32_1389
  let v1482 : BitVec 32 := Scalar.addi c0_i32_1390 v1481
  v1482.toNat
def k0_off13 (d0 : Dev nD) (c1_i32_1376 : BitVec 32) (c256_i32_1394 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1375 : BitVec 32 := 1#32
  let v1469 : BitVec 32 := Scalar.subi v2 c1_i32_1375
  let v1470 : BitVec 32 := Scalar.addi v1469 c1_i32_1376
  let c8_i32_1377 : BitVec 32 := 8#32
  let v1471 : BitVec 32 := Scalar.addi v1470 c8_i32_1377
  let c8_i32_1378 : BitVec 32 := 8#32
  let v1472 : BitVec 32 := Scalar.remsi v1471 c8_i32_1378
  let c512_i32_1393 : BitVec 32 := 512#32
  let v1489 : BitVec 32 := Scalar.muli v1472 c512_i32_1393
  let v1490 : BitVec 32 := Scalar.addi v1489 c256_i32_1394
  let v1491 : Index := Scalar.indexCast v1490
  let c0_1395 : Index := 0#32
  ![v1491.toNat, 0]
def k0_dev65 (d0 : Dev nD) : Nat :=
  let c0_i32_1426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1425 : BitVec 32 := 1#32
  let v1524 : BitVec 32 := Scalar.muli v7 c1_i32_1425
  let v1525 : BitVec 32 := Scalar.addi c0_i32_1426 v1524
  v1525.toNat
def k0_dev66 (d0 : Dev nD) : Nat :=
  let c0_i32_1462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1461 : BitVec 32 := 1#32
  let v1567 : BitVec 32 := Scalar.muli v5 c1_i32_1461
  let v1568 : BitVec 32 := Scalar.addi c0_i32_1462 v1567
  v1568.toNat
def k0_dev67 (d0 : Dev nD) : Nat :=
  let c0_i32_1498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1497 : BitVec 32 := 1#32
  let v1610 : BitVec 32 := Scalar.muli v7 c1_i32_1497
  let v1611 : BitVec 32 := Scalar.addi c0_i32_1498 v1610
  v1611.toNat
def k0_dev68 (d0 : Dev nD) : Nat :=
  let c0_i32_1534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1533 : BitVec 32 := 1#32
  let v1653 : BitVec 32 := Scalar.muli v5 c1_i32_1533
  let v1654 : BitVec 32 := Scalar.addi c0_i32_1534 v1653
  v1654.toNat
def k0_dev69 (d0 : Dev nD) : Nat :=
  let c0_i32_1570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1569 : BitVec 32 := 1#32
  let v1696 : BitVec 32 := Scalar.muli v7 c1_i32_1569
  let v1697 : BitVec 32 := Scalar.addi c0_i32_1570 v1696
  v1697.toNat
def k0_dev70 (d0 : Dev nD) : Nat :=
  let c0_i32_1606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1605 : BitVec 32 := 1#32
  let v1739 : BitVec 32 := Scalar.muli v5 c1_i32_1605
  let v1740 : BitVec 32 := Scalar.addi c0_i32_1606 v1739
  v1740.toNat
def k0_dev71 (d0 : Dev nD) : Nat :=
  let c0_i32_1642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1641 : BitVec 32 := 1#32
  let v1782 : BitVec 32 := Scalar.muli v7 c1_i32_1641
  let v1783 : BitVec 32 := Scalar.addi c0_i32_1642 v1782
  v1783.toNat
def k0_dev72 (d0 : Dev nD) : Nat :=
  let c0_i32_1678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1677 : BitVec 32 := 1#32
  let v1825 : BitVec 32 := Scalar.muli v5 c1_i32_1677
  let v1826 : BitVec 32 := Scalar.addi c0_i32_1678 v1825
  v1826.toNat
def k0_dev73 (d0 : Dev nD) : Nat :=
  let c0_i32_1714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1713 : BitVec 32 := 1#32
  let v1868 : BitVec 32 := Scalar.muli v7 c1_i32_1713
  let v1869 : BitVec 32 := Scalar.addi c0_i32_1714 v1868
  v1869.toNat
def k0_dev74 (d0 : Dev nD) : Nat :=
  let c0_i32_1750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1749 : BitVec 32 := 1#32
  let v1911 : BitVec 32 := Scalar.muli v5 c1_i32_1749
  let v1912 : BitVec 32 := Scalar.addi c0_i32_1750 v1911
  v1912.toNat
def k0_dev75 (d0 : Dev nD) : Nat :=
  let c0_i32_1786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1785 : BitVec 32 := 1#32
  let v1954 : BitVec 32 := Scalar.muli v7 c1_i32_1785
  let v1955 : BitVec 32 := Scalar.addi c0_i32_1786 v1954
  v1955.toNat
def k0_dev76 (d0 : Dev nD) : Nat :=
  let c0_i32_1822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1821 : BitVec 32 := 1#32
  let v1997 : BitVec 32 := Scalar.muli v5 c1_i32_1821
  let v1998 : BitVec 32 := Scalar.addi c0_i32_1822 v1997
  v1998.toNat
def k0_dev77 (d0 : Dev nD) : Nat :=
  let c0_i32_1858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1857 : BitVec 32 := 1#32
  let v2040 : BitVec 32 := Scalar.muli v7 c1_i32_1857
  let v2041 : BitVec 32 := Scalar.addi c0_i32_1858 v2040
  v2041.toNat
def k0_dev78 (d0 : Dev nD) : Nat :=
  let c0_i32_1894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1893 : BitVec 32 := 1#32
  let v2083 : BitVec 32 := Scalar.muli v5 c1_i32_1893
  let v2084 : BitVec 32 := Scalar.addi c0_i32_1894 v2083
  v2084.toNat
def k0_dev79 (d0 : Dev nD) : Nat :=
  let c0_i32_1930 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1929 : BitVec 32 := 1#32
  let v2126 : BitVec 32 := Scalar.muli v7 c1_i32_1929
  let v2127 : BitVec 32 := Scalar.addi c0_i32_1930 v2126
  v2127.toNat
def k0_dev80 (d0 : Dev nD) : Nat :=
  let c0_i32_1966 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1965 : BitVec 32 := 1#32
  let v2169 : BitVec 32 := Scalar.muli v5 c1_i32_1965
  let v2170 : BitVec 32 := Scalar.addi c0_i32_1966 v2169
  v2170.toNat
def k0_dev81 (d0 : Dev nD) : Nat :=
  let c0_i32_2002 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2001 : BitVec 32 := 1#32
  let v2212 : BitVec 32 := Scalar.muli v7 c1_i32_2001
  let v2213 : BitVec 32 := Scalar.addi c0_i32_2002 v2212
  v2213.toNat
def k0_dev82 (d0 : Dev nD) : Nat :=
  let c0_i32_2038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2037 : BitVec 32 := 1#32
  let v2255 : BitVec 32 := Scalar.muli v5 c1_i32_2037
  let v2256 : BitVec 32 := Scalar.addi c0_i32_2038 v2255
  v2256.toNat
def k0_dev83 (d0 : Dev nD) : Nat :=
  let c0_i32_2074 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2073 : BitVec 32 := 1#32
  let v2298 : BitVec 32 := Scalar.muli v7 c1_i32_2073
  let v2299 : BitVec 32 := Scalar.addi c0_i32_2074 v2298
  v2299.toNat
def k0_dev84 (d0 : Dev nD) : Nat :=
  let c0_i32_2110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2109 : BitVec 32 := 1#32
  let v2341 : BitVec 32 := Scalar.muli v5 c1_i32_2109
  let v2342 : BitVec 32 := Scalar.addi c0_i32_2110 v2341
  v2342.toNat
def k0_dev85 (d0 : Dev nD) : Nat :=
  let c0_i32_2146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2145 : BitVec 32 := 1#32
  let v2384 : BitVec 32 := Scalar.muli v7 c1_i32_2145
  let v2385 : BitVec 32 := Scalar.addi c0_i32_2146 v2384
  v2385.toNat
def k0_dev86 (d0 : Dev nD) : Nat :=
  let c0_i32_2182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2181 : BitVec 32 := 1#32
  let v2427 : BitVec 32 := Scalar.muli v5 c1_i32_2181
  let v2428 : BitVec 32 := Scalar.addi c0_i32_2182 v2427
  v2428.toNat
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Mesh.Prog.lean ====
/- The kernel's body written as a sequence of named stages, each taking the stage number and the stream as arguments. -/
module

public import proofs.«01_k».proof.Proof.Gen.KernelIdeal.Points
public import Idealize.ShloMosaic.Lib.Pipeline.Regions

@[expose] public section

noncomputable section

namespace Cert.KernelIdeal.Mesh

open Idealize.ShloMosaic Idealize.SL.Sem Cert.KernelIdeal Cert.KernelIdeal.Gen

variable {F : FTy → Type} [FloatOps F]

/-! ## Chunk and neighbour arithmetic -/

/-- The neighbour to the right on the ring. -/
def right (d : Dev nD) : Dev nD := ⟨(d.val + 1) % 8, Nat.mod_lt _ (by decide)⟩
/-- The neighbour to the left on the ring. -/
def left (d : Dev nD) : Dev nD := ⟨(d.val + 7) % 8, Nat.mod_lt _ (by decide)⟩
/-- Whether stream `q` runs to the right. -/
def up (q : Fin 4) : Bool := decide (q.val < 2)
/-- The device stream `q` of `d` sends to. -/
def dest (d : Dev nD) (q : Fin 4) : Dev nD := if up q then right d else left d
/-- The device stream `q` of `d` receives from. -/
def orig (d : Dev nD) (q : Fin 4) : Dev nD := if up q then left d else right d
/-- The chunk stream `q` of `d` accumulates at reduction hop `s`. -/
def rsChunk (d : Dev nD) (q : Fin 4) (s : ℕ) : Fin 8 :=
  if up q then ⟨(d.val + 7 + 8 - s) % 8, Nat.mod_lt _ (by decide)⟩ else ⟨(d.val + s + 1) % 8, Nat.mod_lt _ (by decide)⟩
/-- The chunk stream `q` of `d` forwards at gathering hop `s`; hop `0` forwards the chunk `d` finished itself. -/
def agChunk (d : Dev nD) (q : Fin 4) (s : ℕ) : Fin 8 :=
  if up q then ⟨(d.val + 17 - s) % 8, Nat.mod_lt _ (by decide)⟩ else ⟨(d.val + s + 7) % 8, Nat.mod_lt _ (by decide)⟩
/-- The `j`-th chunk device `d` multiplies. -/
def mulChunk (d : Dev nD) (j : Fin 8) : Fin 8 := ⟨(d.val + j.val) % 8, Nat.mod_lt _ (by decide)⟩

/-- Where strip `q` of chunk `k` starts. -/
def stripOff (k : Fin 8) (q : Fin 4) : Fin 2 → ℕ := ![512 * k.val + 128 * q.val, 0]
/-- Where chunk `k` starts. -/
def chunkOff (k : Fin 8) : Fin 2 → ℕ := ![512 * k.val, 0]

/-! ## The printed offsets, by stage and stream -/

def offX (d : Dev nD) (j : Fin 8) : Fin 2 → ℕ := if j.val = 0 then k0_off1 d else k0_off4 d (BitVec.ofNat 32 j.val)
def offOut (d : Dev nD) (j : Fin 8) : Fin 2 → ℕ := if j.val = 0 then k0_off2 d else k0_off5 d (BitVec.ofNat 32 j.val)
def offStage (d : Dev nD) (q : Fin 4) : Fin 2 → ℕ := k0_off3 d (BitVec.ofNat 32 (128 * q.val))
def offRs (d : Dev nD) (q : Fin 4) (s : Fin 7) : Fin 2 → ℕ :=
  if q.val < 2 then k0_off6 d (BitVec.ofNat 32 s.val) (BitVec.ofNat 32 (128 * q.val)) else k0_off7 d (BitVec.ofNat 32 s.val) (BitVec.ofNat 32 (128 * q.val))
def offStar (d : Dev nD) (q : Fin 4) : Fin 2 → ℕ :=
  if q.val < 2 then k0_off8 d (BitVec.ofNat 32 (128 * q.val)) else k0_off10 d (BitVec.ofNat 32 (128 * q.val))
def offAg (d : Dev nD) (q : Fin 4) (s : Fin 7) : Fin 2 → ℕ :=
  if q.val < 2 then k0_off9 d (BitVec.ofNat 32 s.val) (BitVec.ofNat 32 (128 * q.val)) else k0_off11 d (BitVec.ofNat 32 s.val) (BitVec.ofNat 32 (128 * q.val))
def offEpi (d : Dev nD) (q : Fin 4) (s : Fin 7) : Fin 2 → ℕ :=
  if q.val < 2 then k0_off12 d (BitVec.ofNat 32 (1 + s.val)) (BitVec.ofNat 32 (128 * q.val)) else k0_off13 d (BitVec.ofNat 32 (1 + s.val)) (BitVec.ofNat 32 (128 * q.val))

set_option maxRecDepth 8192 in
theorem offX_eq : ∀ (d : Dev nD) (j : Fin 8), offX d j = chunkOff (mulChunk d j) := by decide +kernel
theorem offOut_eq : ∀ (d : Dev nD) (j : Fin 8), offOut d j = chunkOff (mulChunk d j) := by decide +kernel
theorem offStage_eq : ∀ (d : Dev nD) (q : Fin 4), offStage d q = stripOff (mulChunk d 0) q := by decide +kernel
theorem offRs_eq : ∀ (d : Dev nD) (q : Fin 4) (s : Fin 7), offRs d q s = stripOff (rsChunk d q s.val) q := by decide +kernel
theorem offStar_eq : ∀ (d : Dev nD) (q : Fin 4), offStar d q = stripOff (agChunk d q 0) q := by decide +kernel
theorem offAg_eq : ∀ (d : Dev nD) (q : Fin 4) (s : Fin 7), offAg d q s = stripOff (agChunk d q s.val) q := by decide +kernel
theorem offEpi_eq : ∀ (d : Dev nD) (q : Fin 4) (s : Fin 7), offEpi d q s = stripOff (agChunk d q (s.val + 1)) q := by decide +kernel

theorem stripOff_inb : ∀ (k : Fin 8) (q : Fin 4) (a), stripOff k q a + S128x2048.size a ≤ S4096x2048.size a := by decide +kernel
theorem chunkOff_inb : ∀ (k : Fin 8) (a), chunkOff k a + S512x2048.size a ≤ S4096x2048.size a := by decide +kernel
theorem chunkOff_inbX : ∀ (k : Fin 8) (a), chunkOff k a + S512x512.size a ≤ S4096x512.size a := by decide +kernel
theorem offX_inb (d : Dev nD) (j : Fin 8) (a) : offX d j a + S512x512.size a ≤ S4096x512.size a := offX_eq d j ▸ chunkOff_inbX _ a
theorem offOut_inb (d : Dev nD) (j : Fin 8) (a) : offOut d j a + S512x2048.size a ≤ S4096x2048.size a := offOut_eq d j ▸ chunkOff_inb _ a
theorem offStage_inb (d : Dev nD) (q : Fin 4) (a) : offStage d q a + S128x2048.size a ≤ S4096x2048.size a := offStage_eq d q ▸ stripOff_inb _ _ a
theorem offRs_inb (d : Dev nD) (q : Fin 4) (s : Fin 7) (a) : offRs d q s a + S128x2048.size a ≤ S4096x2048.size a := offRs_eq d q s ▸ stripOff_inb _ _ a
theorem offStar_inb (d : Dev nD) (q : Fin 4) (a) : offStar d q a + S128x2048.size a ≤ S4096x2048.size a := offStar_eq d q ▸ stripOff_inb _ _ a
theorem offAg_inb (d : Dev nD) (q : Fin 4) (s : Fin 7) (a) : offAg d q s a + S128x2048.size a ≤ S4096x2048.size a := offAg_eq d q s ▸ stripOff_inb _ _ a
theorem offEpi_inb (d : Dev nD) (q : Fin 4) (s : Fin 7) (a) : offEpi d q s a + S128x2048.size a ≤ S4096x2048.size a := offEpi_eq d q s ▸ stripOff_inb _ _ a

/-- The rectangle of one strip's size at an offset. -/
abbrev strip (o : Fin 2 → ℕ) (h : ∀ a, o a + S128x2048.size a ≤ S4096x2048.size a) : Rect S4096x2048 := Rect.unit (s := S4096x2048) o S128x2048.size h

theorem strip_words : ∀ (k : Fin 8) (q : Fin 4), (strip (stripOff k q) (stripOff_inb k q)).WholeWords (EltTy.packing .bf16) := by decide +kernel
theorem strip_packed : ∀ (k : Fin 8) (q : Fin 4), (strip (stripOff k q) (stripOff_inb k q)).PackedRows (EltTy.packing .bf16) := by decide +kernel
theorem strip_words_of {o : Fin 2 → ℕ} {k : Fin 8} {q : Fin 4} (e : o = stripOff k q) (h) : (strip o h).WholeWords (EltTy.packing .bf16) := by
  subst e; exact strip_words k q
theorem strip_packed_of {o : Fin 2 → ℕ} {k : Fin 8} {q : Fin 4} (e : o = stripOff k q) (h) : (strip o h).PackedRows (EltTy.packing .bf16) := by
  subst e; exact strip_packed k q

/-! ## The buffers and semaphores, by stream -/

abbrev xM : Memref sig .tc .vmem S4096x512 .fp8e4m3 := Memref.whole cc0_stg0_0
abbrev wM : Memref sig .tc .vmem S512x2048 .fp8e5m2 := Memref.whole cc0_stg1_0
abbrev sxM : Memref sig .tc .smem S1 .f32 := Memref.whole cc0_stg2_0
abbrev swM : Memref sig .tc .smem S1 .f32 := Memref.whole cc0_stg3_0
abbrev outM : Memref sig .tc .vmem S4096x2048 .f32 := Memref.whole cc0_stg4_0
abbrev gatM : Memref sig .tc .vmem S4096x2048 .bf16 := Memref.whole cc0_scratch0
/-- Stream `q`'s two receive slots. -/
def commM : Fin 4 → Memref sig .tc .vmem S2x128x2048 .bf16
  | 0 => Memref.whole cc0_scratch1
  | 1 => Memref.whole cc0_scratch2
  | 2 => Memref.whole cc0_scratch3
  | 3 => Memref.whole cc0_scratch4
/-- Stream `q`'s send buffer. -/
def stageM : Fin 4 → Memref sig .tc .vmem S128x2048 .bf16
  | 0 => Memref.whole cc0_scratch5
  | 1 => Memref.whole cc0_scratch6
  | 2 => Memref.whole cc0_scratch7
  | 3 => Memref.whole cc0_scratch8
/-- Stream `q`'s gathering receive semaphores. -/
def agSems : Fin 4 → DmaSems sig S7
  | 0 => cc0_scratch12
  | 1 => cc0_scratch13
  | 2 => cc0_scratch14
  | 3 => cc0_scratch15

theorem commM_whole : ∀ q, (commM q).IsWhole
  | 0 => Memref.isWhole_whole _
  | 1 => Memref.isWhole_whole _
  | 2 => Memref.isWhole_whole _
  | 3 => Memref.isWhole_whole _
theorem stageM_whole : ∀ q, (stageM q).IsWhole
  | 0 => Memref.isWhole_whole _
  | 1 => Memref.isWhole_whole _
  | 2 => Memref.isWhole_whole _
  | 3 => Memref.isWhole_whole _

theorem inbS4 (q : Fin 4) (a : Fin 1) : (![q.val] : Fin 1 → ℕ) a + S1.size a ≤ S4.size a := by revert q a; decide
theorem inbS7 (s : Fin 7) (a : Fin 1) : (![s.val] : Fin 1 → ℕ) a + S1.size a ≤ S7.size a := by revert s a; decide
theorem inbS4x2 (q : Fin 4) (p : Fin 2) (a : Fin 2) : (![q.val, p.val] : Fin 2 → ℕ) a + S1x1.size a ≤ S4x2.size a := by revert q p a; decide
theorem inbComm (p : Fin 2) (a : Fin 3) : (![p.val, 0, 0] : Fin 3 → ℕ) a + S1x128x2048.size a ≤ S2x128x2048.size a := by revert p a; decide
theorem words_comm : ∀ p : Fin 2, (Rect.unit (s := S2x128x2048) ![p.val, 0, 0] S1x128x2048.size (inbComm p)).WholeWords (EltTy.packing .bf16) := by decide +kernel

/-- The slot a reduction hop lands in. -/
def par (s : Fin 7) : Fin 2 := ⟨s.val % 2, Nat.mod_lt _ (by decide)⟩
abbrev slotR (p : Fin 2) : Rect S2x128x2048 := Rect.unit (s := S2x128x2048) ![p.val, 0, 0] S1x128x2048.size (inbComm p)
abbrev slotM (q : Fin 4) (p : Fin 2) : Memref sig .tc .vmem S128x2048 .bf16 := ((commM q).slice (slotR p) (fun _ => rfl)).squeeze S128x2048 squeezes_S1x128x2048_S128x2048
theorem slotM_words (q : Fin 4) (p : Fin 2) : (slotM q p).view.WordExact := ((commM_whole q).wordExact_slice rfl _ (words_comm p)).reshape _ _

abbrev rsSendS (q : Fin 4) : DmaSem sig := ((cc0_scratch9.slice (Rect.unit (s := S4) ![q.val] S1.size (inbS4 q))).squeeze S_ squeezes_S1_S_).sem
abbrev rsRecvS (q : Fin 4) (p : Fin 2) : DmaSem sig := ((cc0_scratch10.slice (Rect.unit (s := S4x2) ![q.val, p.val] S1x1.size (inbS4x2 q p))).squeeze S_ squeezes_S1x1_S_).sem
abbrev agSendS (q : Fin 4) : DmaSem sig := ((cc0_scratch11.slice (Rect.unit (s := S4) ![q.val] S1.size (inbS4 q))).squeeze S_ squeezes_S1_S_).sem
abbrev agRecvS (q : Fin 4) (s : Fin 7) : DmaSem sig := (((agSems q).slice (Rect.unit (s := S7) ![s.val] S1.size (inbS7 s))).squeeze S_ squeezes_S1_S_).sem
abbrev credS (q : Fin 4) : Sem sig := ((cc0_scratch16.slice (Rect.unit (s := S4) ![q.val] S1.size (inbS4 q))).squeeze S_ squeezes_S1_S_).sem
abbrev barS : Sem sig := (SemArray.scalar (sig.barrier 0 rfl) : Sems sig S_).sem

def sendDev (d : Dev nD) (q : Fin 4) : Dev nD := if q.val < 2 then ⟨k0_dev3 d, k0_dev3_lt d⟩ else ⟨k0_dev4 d, k0_dev4_lt d⟩
def credDev (d : Dev nD) (q : Fin 4) : Dev nD := if q.val < 2 then ⟨k0_dev7 d, k0_dev7_lt d⟩ else ⟨k0_dev9 d, k0_dev9_lt d⟩
theorem sendDev_eq : ∀ (d : Dev nD) (q : Fin 4), sendDev d q = dest d q := by decide +kernel
theorem credDev_eq : ∀ (d : Dev nD) (q : Fin 4), credDev d q = orig d q := by decide +kernel
theorem dev1_eq : ∀ d : Dev nD, (⟨k0_dev1 d, k0_dev1_lt d⟩ : Dev nD) = left d := by decide +kernel
theorem dev2_eq : ∀ d : Dev nD, (⟨k0_dev2 d, k0_dev2_lt d⟩ : Dev nD) = right d := by decide +kernel

/-! ## The values stored -/

/-- One chunk's product. -/
def mulPay (x : Vec F S512x512 .fp8e4m3) (w : Vec F S512x2048 .fp8e5m2) : FVec F S512x2048 .f32 :=
  matmul dot_S512x512_S512x2048_S512x2048_1_0_0_1_n_n none (extf .bf16 (shapeCast S512x512 x shapeCasts_S512x512_S512x512) bitsLt_fp8e4m3_bf16)
    (extf .bf16 (shapeCast S512x2048 w shapeCasts_S512x2048_S512x2048) bitsLt_fp8e5m2_bf16) (constant S512x2048 .f32 0x00000000#32)
/-- A strip rounded for sending. -/
def narrow (v : FVec F S128x2048 .f32) : FVec F S128x2048 .bf16 := shapeCast S128x2048 (truncf .bf16 v bitsLt_bf16_f32) shapeCasts_S128x2048_S128x2048
/-- A strip read for rounding. -/
def stagePay (v : Vec F S128x2048 .f32) : FVec F S128x2048 .bf16 := narrow (shapeCast S128x2048 v shapeCasts_S128x2048_S128x2048)
/-- The device's own strip plus what arrived. -/
def accPay (v : Vec F S128x2048 .f32) (g : Vec F S1x128x2048 .bf16) : FVec F S128x2048 .bf16 :=
  narrow (addf (shapeCast S128x2048 v shapeCasts_S128x2048_S128x2048) (extf .f32 (shapeCast S128x2048 g shapeCasts_S1x128x2048_S128x2048) bitsLt_bf16_f32))
/-- A finished strip, scaled and clipped at zero. -/
def epiPay (g : F .f32) (v : Vec F S128x2048 .bf16) : FVec F S128x2048 .f32 :=
  maximumf (mulf (extf .f32 v bitsLt_bf16_f32) (broadcast S128x2048 g)) (broadcast S128x2048 (Scalar.ofBits .f32 0x00000000#32))

/-! ## The stages, each continued by the rest of the body -/

abbrev P (F : FTy → Type) := Prog (TpuEff nD τ sig (Elt F) Λ₀ .tc) PUnit

/-- Meet both neighbours. -/
def entryStage (d : Dev nD) (k : P F) : P F :=
  .op (.semSignal ((⟨k0_dev1 d, k0_dev1_lt d⟩ : Dev nD), .tc) barS (1#32 : BitVec 32).toInt) fun _ =>
  .op (.semSignal ((⟨k0_dev2 d, k0_dev2_lt d⟩ : Dev nD), .tc) barS (1#32 : BitVec 32).toInt) fun _ =>
  .op (.semWait barS (2#32 : BitVec 32).toInt) fun _ => k

/-- Multiply one chunk. -/
def mulStage (d : Dev nD) (j : Fin 8) (k : P F) : P F :=
  .op (.load xM (Rect.unit (s := S4096x512) (offX d j) S512x512.size (offX_inb d j)).toLoadRect (View.loadsAt_vmem h_S512x512)) fun x =>
  .op (.load wM (Rect.unit (s := S512x2048) ![0, 0] S512x2048.size inb_S512x2048_S512x2048_0_0).toLoadRect (View.loadsAt_vmem h_S512x2048)) fun w =>
  .op (.load outM (Rect.unit (s := S4096x2048) (offOut d j) S512x2048.size (offOut_inb d j)).toLoadRect (View.loadsAt_vmem h_S512x2048)) fun _ =>
  .op (.store outM (Rect.unit (s := S4096x2048) (offOut d j) S512x2048.size (offOut_inb d j)) (mulPay x w) Finset.univ (View.stores_vmem_bits_univ h_S512x2048 rfl) (.inl rfl)) fun _ => k

/-- Put a value in a stream's send buffer. -/
def putStage (q : Fin 4) (v : FVec F S128x2048 .bf16) (k : P F) : P F :=
  .op (.load (stageM q) (Rect.unit (s := S128x2048) ![0, 0] S128x2048.size inb_S128x2048_S128x2048_0_0).toLoadRect (View.loadsAt_vmem h_S128x2048)) fun _ =>
  .op (.store (stageM q) (Rect.unit (s := S128x2048) ![0, 0] S128x2048.size inb_S128x2048_S128x2048_0_0) v Finset.univ (View.stores_vmem h_S128x2048 ((stageM_whole q).storeExact_slice rfl _ packedbf16_S128x2048_S128x2048_0_0) (fun _ => rfl)) (.inl rfl)) fun _ => k

/-- Round a stream's first strip into its send buffer. -/
def roundStage (d : Dev nD) (q : Fin 4) (k : P F) : P F :=
  .op (.load outM (strip (offStage d q) (offStage_inb d q)).toLoadRect (View.loadsAt_vmem h_S128x2048)) fun v => putStage q (stagePay v) k

/-- Send a stream's buffer into the next device's slot `p`. -/
def rsSend (d : Dev nD) (q : Fin 4) (p : Fin 2) (k : P F) : P F :=
  .op (.enqueueDma (stageM q) (.remote (Dev.tc (sendDev d q)) (slotM q p) (.dma (rsSendS q))) (.dma (rsRecvS q p)) (stageM_whole q).wordExact (slotM_words q p) ⟨⟨rfl, Or.inl rfl⟩, trivial⟩) fun _ => k

/-- Receive a strip and add the device's own to it. -/
def rsRecv (d : Dev nD) (q : Fin 4) (s : Fin 7) (k : FVec F S128x2048 .bf16 → P F) : P F :=
  .op (.waitDma2 (rsRecvS q (par s)) (stageM q) (slotM q (par s)) (stageM_whole q).wordExact (slotM_words q (par s))) fun _ =>
  .op (.load outM (strip (offRs d q s) (offRs_inb d q s)).toLoadRect (View.loadsAt_vmem h_S128x2048)) fun v =>
  .op (.load (commM q) (slotR (par s)).toLoadRect (View.loadsAt_vmem h_S1x128x2048)) fun g =>
  .op (.waitDma2 (rsSendS q) (slotM q (par s)) (stageM q) (slotM_words q (par s)) (stageM_whole q).wordExact) fun _ => k (accPay v g)

/-- Tell the sender that a slot is free again. -/
def credStage (d : Dev nD) (q : Fin 4) (k : P F) : P F :=
  .op (.semSignal (credDev d q, .tc) (credS q) (1#32 : BitVec 32).toInt) fun _ => k

/-- Wait until the receiver freed a slot. -/
def credWait (q : Fin 4) (n : BitVec 32) (k : P F) : P F :=
  .op (.semWait (credS q) n.toInt) fun _ => k

/-- Put a finished strip where the gathering reads it. -/
def putGather (d : Dev nD) (q : Fin 4) (v : FVec F S128x2048 .bf16) (k : P F) : P F :=
  .op (.load gatM (strip (offStar d q) (offStar_inb d q)).toLoadRect (View.loadsAt_vmem h_S128x2048)) fun _ =>
  .op (.store gatM (strip (offStar d q) (offStar_inb d q)) v Finset.univ (View.stores_vmem h_S128x2048 ((Memref.isWhole_whole _).storeExact_slice rfl _ (strip_packed_of (offStar_eq d q) _)) (fun _ => rfl)) (.inl rfl)) fun _ => k

abbrev agM (d : Dev nD) (q : Fin 4) (s : Fin 7) : Memref sig .tc .vmem S128x2048 .bf16 := gatM.slice (strip (offAg d q s) (offAg_inb d q s)) (fun _ => rfl)
theorem agM_words (d : Dev nD) (q : Fin 4) (s : Fin 7) : (agM d q s).view.WordExact :=
  (Memref.isWhole_whole _).wordExact_slice rfl _ (strip_words_of (offAg_eq d q s) _)

/-- Forward a finished strip. -/
def agSend (d : Dev nD) (q : Fin 4) (s : Fin 7) (k : P F) : P F :=
  .op (.enqueueDma (agM d q s) (.remote (Dev.tc (sendDev d q)) (agM d q s) (.dma (agSendS q))) (.dma (agRecvS q s)) (agM_words d q s) (agM_words d q s) ⟨⟨rfl, Or.inl rfl⟩, trivial⟩) fun _ => k

/-- Wait for a finished strip, and for the strip forwarded to have left. -/
def agWait (d : Dev nD) (q : Fin 4) (s : Fin 7) (k : P F) : P F :=
  .op (.waitDma2 (agRecvS q s) (agM d q s) (agM d q s) (agM_words d q s) (agM_words d q s)) fun _ =>
  .op (.waitDma2 (agSendS q) (agM d q s) (agM d q s) (agM_words d q s) (agM_words d q s)) fun _ => k

/-- Scale and clip a finished strip into the result. -/
def epiStage (o : Fin 2 → ℕ) (h : ∀ a, o a + S128x2048.size a ≤ S4096x2048.size a) (g : F .f32) (k : P F) : P F :=
  .op (.load gatM (strip o h).toLoadRect (View.loadsAt_vmem h_S128x2048)) fun v =>
  .op (.load outM (strip o h).toLoadRect (View.loadsAt_vmem h_S128x2048)) fun _ =>
  .op (.store outM (strip o h) (epiPay g v) Finset.univ (View.stores_vmem_bits_univ h_S128x2048 rfl) (.inl rfl)) fun _ => k

/-- Read the product of the two scales. -/
def scaleStage (k : F .f32 → P F) : P F :=
  .op (.load sxM (Rect.unit (s := S1) ![0] S1.size inb_S1_S1_0).toLoadRect (View.loadsAt_rect (View.loads_smem_one rfl numel1_S1))) fun a =>
  .op (.load swM (Rect.unit (s := S1) ![0] S1.size inb_S1_S1_0).toLoadRect (View.loadsAt_rect (View.loads_smem_one rfl numel1_S1))) fun b =>
  k (Scalar.mulf (a (Shape.Idx.first (numel1_S1.symm ▸ Nat.one_pos))) (b (Shape.Idx.first (numel1_S1.symm ▸ Nat.one_pos))))

/-- The slot of the hop after `s`. -/
def par' (s : Fin 7) : Fin 2 := ⟨(s.val + 1) % 2, Nat.mod_lt _ (by decide)⟩
/-- The gathering hop after `s`. -/
def next (s : Fin 7) : Fin 7 := ⟨(s.val + 1) % 7, Nat.mod_lt _ (by decide)⟩

/-- One reduction hop of one stream. -/
def rsHop (d : Dev nD) (g : F .f32) (s : Fin 7) (q : Fin 4) (k : P F) : P F :=
  rsRecv d q s fun v =>
    if s.val = 6 then putGather d q v (credStage d q (agSend d q 0 (epiStage (offStar d q) (offStar_inb d q) g k)))
    else if s.val = 0 then putStage q v (credStage d q (rsSend d q (par' s) k))
    else putStage q v (credStage d q (credWait q 1#32 (rsSend d q (par' s) k)))

/-- One gathering hop of one stream. -/
def agHop (d : Dev nD) (g : F .f32) (s : Fin 7) (q : Fin 4) (k : P F) : P F :=
  agWait d q s <|
    if s.val = 6 then epiStage (offEpi d q s) (offEpi_inb d q s) g k
    else agSend d q (next s) (epiStage (offEpi d q s) (offEpi_inb d q s) g k)

/-- A stage for every stream, in the order the kernel takes them. -/
def streams (f : Fin 4 → P F → P F) (k : P F) : P F := f 0 (f 2 (f 1 (f 3 k)))
/-- A stage for every hop. -/
def hops (f : Fin 7 → P F → P F) (k : P F) : P F := f 0 (f 1 (f 2 (f 3 (f 4 (f 5 (f 6 k))))))

/-- The body on device `d`. -/
def bodyOn (d : Dev nD) : P F :=
  entryStage d <| mulStage d 0 <|
  roundStage d 0 <| roundStage d 1 <| roundStage d 2 <| roundStage d 3 <|
  streams (fun q => rsSend d q 0) <|
  mulStage d 1 <| mulStage d 2 <| mulStage d 3 <| mulStage d 4 <| mulStage d 5 <| mulStage d 6 <| mulStage d 7 <|
  scaleStage fun g =>
  hops (fun s => streams (rsHop d g s)) <|
  credWait 0 2#32 <| credWait 1 2#32 <| credWait 2 2#32 <| credWait 3 2#32 <|
  hops (fun s => streams (agHop d g s)) (.ret ⟨⟩)

/-- The body. -/
def body : P F := .op .deviceId fun d => bodyOn d

end Cert.KernelIdeal.Mesh

end
-- ==== Proof.Mesh.Vals.lean ====
/- What the buffers hold: each device's products, the partial sums travelling along each stream, the finished strips and the result. -/
module

public import proofs.«01_k».proof.Proof.Mesh.Prog
public import Idealize.ShloMosaic.Lib.ValueIdxCore

@[expose] public section

noncomputable section

namespace Cert.KernelIdeal.Mesh

open Idealize.ShloMosaic Idealize.SL.Sem Cert.KernelIdeal Cert.KernelIdeal.Gen
open Idealize.ShloMosaic.ValueIdx (eq_ix2 idx2_lt0 idx2_lt1)

variable {F : FTy → Type} [FloatOps F]

/-! ## Contents put together from chunks or strips -/

/-- A result-sized array from its eight chunks. -/
def ofChunks {α : Type} (X : Fin 8 → S512x2048.Idx → α) (i : S4096x2048.Idx) : α :=
  X ⟨(i 0).val / 512, by have := idx2_lt0 (n0 := 4096) (n1 := 2048) i; omega⟩
    (ValueIdx.ix2 (n0 := 512) (n1 := 2048) ⟨(i 0).val % 512, Nat.mod_lt _ (by decide)⟩ (i 1))
/-- A result-sized array from its thirty-two strips. -/
def ofStrips {α : Type} (X : Fin 8 → Fin 4 → S128x2048.Idx → α) (i : S4096x2048.Idx) : α :=
  X ⟨(i 0).val / 512, by have := idx2_lt0 (n0 := 4096) (n1 := 2048) i; omega⟩ ⟨(i 0).val / 128 % 4, Nat.mod_lt _ (by decide)⟩
    (ValueIdx.ix2 (n0 := 128) (n1 := 2048) ⟨(i 0).val % 128, Nat.mod_lt _ (by decide)⟩ (i 1))

abbrev chunkR (k : Fin 8) : Rect S4096x2048 := Rect.unit (s := S4096x2048) (chunkOff k) S512x2048.size (chunkOff_inb k)
abbrev stripR (k : Fin 8) (q : Fin 4) : Rect S4096x2048 := strip (stripOff k q) (stripOff_inb k q)

theorem ofChunks_emb {α : Type} (X : Fin 8 → S512x2048.Idx → α) (k : Fin 8) (j : S512x2048.Idx) :
    ofChunks X ((chunkR k).emb j) = X k j := by
  have h0 : ((chunkR k).emb j 0).val = 512 * k.val + (j 0).val := by
    rw [Rect.emb_apply]; show chunkOff k 0 + 1 * (j 0).val = _; show 512 * k.val + 1 * (j 0).val = _; omega
  have h1 : ((chunkR k).emb j 1).val = (j 1).val := by
    rw [Rect.emb_apply]; show 0 + 1 * (j 1).val = _; omega
  have hj : (j 0).val < 512 := idx2_lt0 (n0 := 512) (n1 := 2048) j
  have hk : (⟨((chunkR k).emb j 0).val / 512, by have := k.isLt; omega⟩ : Fin 8) = k := Fin.ext (by show _ / 512 = k.val; omega)
  unfold ofChunks
  rw [hk]
  refine congrArg (X k) (funext fun a => ?_)
  match a with
  | ⟨0, _⟩ => exact Fin.ext (show ((chunkR k).emb j 0).val % 512 = (j 0).val by omega)
  | ⟨1, _⟩ => exact Fin.ext h1

theorem ofStrips_emb {α : Type} (X : Fin 8 → Fin 4 → S128x2048.Idx → α) (k : Fin 8) (q : Fin 4) (j : S128x2048.Idx) :
    ofStrips X ((stripR k q).emb j) = X k q j := by
  have h0 : ((stripR k q).emb j 0).val = 512 * k.val + 128 * q.val + (j 0).val := by
    rw [Rect.emb_apply]; show 512 * k.val + 128 * q.val + 1 * (j 0).val = _; omega
  have h1 : ((stripR k q).emb j 1).val = (j 1).val := by
    rw [Rect.emb_apply]; show 0 + 1 * (j 1).val = _; omega
  have hj : (j 0).val < 128 := idx2_lt0 (n0 := 128) (n1 := 2048) j
  have hq := q.isLt
  have hk : (⟨((stripR k q).emb j 0).val / 512, by have := k.isLt; omega⟩ : Fin 8) = k := Fin.ext (by show _ / 512 = k.val; omega)
  have hq' : (⟨((stripR k q).emb j 0).val / 128 % 4, Nat.mod_lt _ (by decide)⟩ : Fin 4) = q := Fin.ext (by show _ / 128 % 4 = q.val; omega)
  unfold ofStrips
  rw [hk, hq']
  refine congrArg (X k q) (funext fun a => ?_)
  match a with
  | ⟨0, _⟩ => exact Fin.ext (show ((stripR k q).emb j 0).val % 128 = (j 0).val by omega)
  | ⟨1, _⟩ => exact Fin.ext h1

/-! ## The values -/

variable (F) in
/-- The staged inputs, device by device. -/
structure Data where
  /-- the device's columns of the left factor -/
  x : Dev nD → (cc0_stg0_0 : Ref sig .tc).ty.Contents (Elt F)
  /-- the device's rows of the right factor -/
  w : Dev nD → (cc0_stg1_0 : Ref sig .tc).ty.Contents (Elt F)
  /-- the left factor's scale -/
  sx : Dev nD → (cc0_stg2_0 : Ref sig .tc).ty.Contents (Elt F)
  /-- the right factor's scale -/
  sw : Dev nD → (cc0_stg3_0 : Ref sig .tc).ty.Contents (Elt F)

variable (D : Data F)

/-- Chunk `k` of device `d`'s product. -/
def prod (d : Dev nD) (k : Fin 8) : S512x2048.Idx → Elt F .f32 :=
  mulPay (xM.view.readAt (Elt F) (Rect.unit (s := S4096x512) (chunkOff k) S512x512.size (chunkOff_inbX k)).toLoadRect (D.x d)) (D.w d)
/-- Device `d`'s product. -/
def prodC (d : Dev nD) : (cc0_stg4_0 : Ref sig .tc).ty.Contents (Elt F) := ofChunks (prod D d)
/-- Strip `q` of chunk `k` of device `d`'s product. -/
def prodS (d : Dev nD) (k : Fin 8) (q : Fin 4) : S128x2048.Idx → Elt F .f32 := fun j => prodC D d ((stripR k q).emb j)

/-- The device's own strip plus what arrived, rounded. -/
def addIn (v : S128x2048.Idx → Elt F .f32) (g : S128x2048.Idx → Elt F .bf16) : FVec F S128x2048 .bf16 :=
  narrow (addf (shapeCast S128x2048 v shapeCasts_S128x2048_S128x2048) (extf .f32 g bitsLt_bf16_f32))

/-- What stream `q` of device `d` holds after `s` reduction hops. -/
def acc : ℕ → Dev nD → Fin 4 → FVec F S128x2048 .bf16
  | 0, d, q => stagePay (prodS D d (mulChunk d 0) q)
  | s + 1, d, q => addIn (prodS D d (rsChunk d q s) q) (acc s (orig d q) q)

/-- The device that finishes strip `q` of chunk `k`. -/
def owner (k : Fin 8) (q : Fin 4) : Dev nD := if up q then ⟨(k.val + 7) % 8, Nat.mod_lt _ (by decide)⟩ else ⟨(k.val + 1) % 8, Nat.mod_lt _ (by decide)⟩
theorem owner_star : ∀ (d : Dev nD) (q : Fin 4), owner (agChunk d q 0) q = d := by decide +kernel

/-- The finished strips. -/
def fin_ (k : Fin 8) (q : Fin 4) : S128x2048.Idx → Elt F .bf16 := acc D 7 (owner k q) q
/-- The gathered array. -/
def gatC : (cc0_scratch0 : Ref sig .tc).ty.Contents (Elt F) := ofStrips (fin_ D)
/-- The product of device `d`'s two scales. -/
def scale (d : Dev nD) : F .f32 :=
  Scalar.mulf (sxM.view.readAt (Elt F) (Rect.unit (s := S1) ![0] S1.size inb_S1_S1_0).toLoadRect (D.sx d) (Shape.Idx.first (numel1_S1.symm ▸ Nat.one_pos)))
    (swM.view.readAt (Elt F) (Rect.unit (s := S1) ![0] S1.size inb_S1_S1_0).toLoadRect (D.sw d) (Shape.Idx.first (numel1_S1.symm ▸ Nat.one_pos)))
/-- The result on device `d`. -/
def outC (d : Dev nD) : (cc0_stg4_0 : Ref sig .tc).ty.Contents (Elt F) := ofStrips fun k q => epiPay (scale D d) (fin_ D k q)

theorem prodC_read (d : Dev nD) (k : Fin 8) : (outM.access (chunkR k)).read (Elt F) (prodC D d) = prod D d k :=
  funext fun j => ofChunks_emb (prod D d) k j
theorem prodC_read_strip (d : Dev nD) (k : Fin 8) (q : Fin 4) : (outM.access (stripR k q)).read (Elt F) (prodC D d) = prodS D d k q := rfl
theorem gatC_read (k : Fin 8) (q : Fin 4) : (gatM.access (stripR k q)).read (Elt F) (gatC D) = fin_ D k q :=
  funext fun j => ofStrips_emb (fin_ D) k q j
theorem outC_read (d : Dev nD) (k : Fin 8) (q : Fin 4) : (outM.access (stripR k q)).read (Elt F) (outC D d) = epiPay (scale D d) (fin_ D k q) :=
  funext fun j => ofStrips_emb (fun k q => epiPay (scale D d) (fin_ D k q)) k q j
theorem fin_star (d : Dev nD) (q : Fin 4) : fin_ D (agChunk d q 0) q = acc D 7 d q := by unfold fin_; rw [owner_star]

end Cert.KernelIdeal.Mesh

end
-- ==== Proof.Mesh.Sched.lean ====
/- The protocol: which signal or transfer raises which semaphore, what it hands over, and in which order a device pays. -/
module

public import proofs.«01_k».proof.Proof.Mesh.Vals
public import Idealize.ShloMosaic.Lib.Pipeline.Kit
public import Idealize.ShloMosaic.Lib.Pipeline.Launch
public import Idealize.ShloMosaic.Lib.Rounds
public import Idealize.ShloMosaic.Lib.Release
public import Idealize.ShloMosaic.Lib.Memref
public import Idealize.ShloMosaic.Lib.Tactic

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The ghost state: the pipeline's, the protocol's, and the receive slots' -/

abbrev Key : Type := Dev nD × Fin 4 × Fin 2
abbrev UB : Type := URounds (GSem nD τ sig) ℕ
abbrev UC : Type := UB × USlots Key
abbrev UU : Type := UR sig nD τ × UC

local notation "𝕄" => MT nD τ sig ℕ (Elt F) ℕ UU ℕ

abbrev EP : Emb (UR sig nD τ) (MT nD τ sig ℕ (Elt F) ℕ UU ℕ) := embL
abbrev EC : Emb UC (MT nD τ sig ℕ (Elt F) ℕ UU ℕ) := embR
abbrev ER : Emb UB (MT nD τ sig ℕ (Elt F) ℕ UU ℕ) := (Emb.inl : Emb UB UC).trans EC
abbrev EK : Emb (USlots Key) (MT nD τ sig ℕ (Elt F) ℕ UU ℕ) := (Emb.inr : Emb (USlots Key) UC).trans EC

/-! ## Cells -/

abbrev barCell (d : Dev nD) : GSem nD τ sig := ((d : Thread nD τ), .reg barS)
abbrev crCell (d : Dev nD) (q : Fin 4) : GSem nD τ sig := ((d : Thread nD τ), .reg (credS q))
abbrev rsSCell (d : Dev nD) (q : Fin 4) : GSem nD τ sig := ((d : Thread nD τ), .dma (rsSendS q))
abbrev rsRCell (d : Dev nD) (q : Fin 4) (p : Fin 2) : GSem nD τ sig := ((d : Thread nD τ), .dma (rsRecvS q p))
abbrev agSCell (d : Dev nD) (q : Fin 4) : GSem nD τ sig := ((d : Thread nD τ), .dma (agSendS q))
abbrev agRCell (d : Dev nD) (q : Fin 4) (s : Fin 7) : GSem nD τ sig := ((d : Thread nD τ), .dma (agRecvS q s))

/-- What a semaphore is used for. -/
inductive Use
  | off | bar
  | cr (q : Fin 4) | rsS (q : Fin 4) | rsR (q : Fin 4) (p : Fin 2) | agS (q : Fin 4) | agR (q : Fin 4) (s : Fin 7)
  deriving DecidableEq

/-- A semaphore's use, by its number. -/
def use : SemLoc sig → Use
  | .reg i => if i.val < 4 then .cr ⟨i.val % 4, Nat.mod_lt _ (by decide)⟩ else .bar
  | .dma i =>
    if i.val < 5 then .off
    else if i.val < 9 then .rsS ⟨(i.val - 5) % 4, Nat.mod_lt _ (by decide)⟩
    else if i.val < 17 then .rsR ⟨(i.val - 9) / 2 % 4, Nat.mod_lt _ (by decide)⟩ ⟨(i.val - 9) % 2, Nat.mod_lt _ (by decide)⟩
    else if i.val < 21 then .agS ⟨(i.val - 17) % 4, Nat.mod_lt _ (by decide)⟩
    else .agR ⟨(i.val - 21) / 7 % 4, Nat.mod_lt _ (by decide)⟩ ⟨(i.val - 21) % 7, Nat.mod_lt _ (by decide)⟩

theorem use_bar : use (.reg barS) = .bar := by decide +kernel
theorem use_cr : ∀ q, use (.reg (credS q)) = .cr q := by decide +kernel
theorem use_rsS : ∀ q, use (.dma (rsSendS q)) = .rsS q := by decide +kernel
theorem use_rsR : ∀ q p, use (.dma (rsRecvS q p)) = .rsR q p := by decide +kernel
theorem use_agS : ∀ q, use (.dma (agSendS q)) = .agS q := by decide +kernel
theorem use_agR : ∀ q s, use (.dma (agRecvS q s)) = .agR q s := by decide +kernel

/-! ## Amounts -/

/-- A strip's credit. -/
abbrev NB : ℕ := (stageM 0).view.dmaCredit
theorem NB_pos : 0 < NB := View.dmaCredit_pos _ (by decide)
theorem stage_credit : ∀ q, (stageM q).view.dmaCredit = NB
  | 0 => rfl | 1 => rfl | 2 => rfl | 3 => rfl
theorem slot_credit : ∀ q p, (slotM q p).view.dmaCredit = NB
  | 0, _ => rfl | 1, _ => rfl | 2, _ => rfl | 3, _ => rfl

/-- Strip `q` of chunk `k` of the gathered array, and of the result; chunk `k` of the result. -/
abbrev gatS (k : Fin 8) (q : Fin 4) : Memref sig .tc .vmem S128x2048 .bf16 := gatM.slice (stripR k q) (fun _ => rfl)
abbrev outS (k : Fin 8) (q : Fin 4) : Memref sig .tc .vmem S128x2048 .f32 := outM.slice (stripR k q) (fun _ => rfl)
abbrev outK (k : Fin 8) : Memref sig .tc .vmem S512x2048 .f32 := outM.slice (chunkR k) (fun _ => rfl)
theorem gat_credit (k : Fin 8) (q : Fin 4) : (gatS k q).view.dmaCredit = NB := rfl

/-- The parity of a hop. -/
def parN (s : ℕ) : Fin 2 := ⟨s % 2, Nat.mod_lt _ (by decide)⟩

/-! ## What is handed over -/

/-- A memref's elements on device `d`. -/
def pt (d : Dev nD) {sp : Space} {s : Shape} {e : EltTy} (m : Memref sig .tc sp s e) (q : PosShare TreeShare)
    (f : Buf (Elt F) (m.view.loc (d : Thread nD τ))) : sProp 𝕄 :=
  m.view.loc (d : Thread nD τ) ↦[m.view.set]{q} f
/-- The same, whatever they hold. -/
def anyPt (d : Dev nD) {sp : Space} {s : Shape} {e : EltTy} (m : Memref sig .tc sp s e) : sProp 𝕄 := iprop(∃ f, pt (F := F) d m fullShare f)

instance pt_storable (d : Dev nD) {sp : Space} {s : Shape} {e : EltTy} (m : Memref sig .tc sp s e) (q) (f) :
    BI.Storable (upEmb : UEmb _ 𝕄) (pt (F := F) d m q f) := by unfold pt; infer_instance
instance anyPt_storable (d : Dev nD) {sp : Space} {s : Shape} {e : EltTy} (m : Memref sig .tc sp s e) :
    BI.Storable (upEmb : UEmb _ 𝕄) (anyPt (F := F) d m) := by unfold anyPt; infer_instance

/-- A receive slot on device `d`. -/
abbrev slotP (k : Key) : sProp 𝕄 := slot ((slotM k.2.1 k.2.2).view.loc (k.1 : Thread nD τ)) (slotM k.2.1 k.2.2).view.set

/-- What a sender must know before reduction hop `t` into device `c`: the slot was given back, and the receive semaphore was awaited, often enough. -/
def fact (c : Dev nD) (q : Fin 4) (t : ℕ) : sProp 𝕄 :=
  iprop(released EK (c, q, parN t) (t / 2 + 1) ∗ reached ER (rsRCell c q (parN t)) (t / 2))
instance fact_persistent (c : Dev nD) (q : Fin 4) (t : ℕ) : BI.Persistent (fact (F := F) c q t) := by unfold fact; infer_instance
instance fact_storable (c : Dev nD) (q : Fin 4) (t : ℕ) : BI.Storable (upEmb : UEmb _ 𝕄) (fact (F := F) c q t) := by unfold fact; infer_instance

/-- What is known after `n` hops about the hops two later. -/
def facts (c : Dev nD) (q : Fin 4) (n : ℕ) : sProp 𝕄 := bigSep (Finset.range n) fun i => fact (F := F) c q (i + 2)
instance facts_persistent (c : Dev nD) (q : Fin 4) (n : ℕ) : BI.Persistent (facts (F := F) c q n) := by unfold facts; infer_instance
instance facts_storable (c : Dev nD) (q : Fin 4) (n : ℕ) : BI.Storable (upEmb : UEmb _ 𝕄) (facts (F := F) c q n) := by unfold facts; infer_instance

/-- What the receiver of stream `q` of `e` hands `e` on meeting: the rows `e` will gather into, and that both slots are free. -/
def entry (e : Dev nD) (q : Fin 4) : sProp 𝕄 :=
  iprop(fact (F := F) (dest e q) q 0 ∗ fact (F := F) (dest e q) q 1 ∗ bigSep (Finset.Ico 0 7) fun s => anyPt (F := F) (dest e q) (gatS (agChunk e q s) q))
instance entry_storable (e : Dev nD) (q : Fin 4) : BI.Storable (upEmb : UEmb _ 𝕄) (entry (F := F) e q) := by unfold entry; infer_instance

variable (D : Data F)

/-- What a duty hands over, by the semaphore's use. -/
def payOf (d : Dev nD) : Use → ℕ → ℕ → sProp 𝕄
  | .off, _, _ => iprop(emp)
  | .bar, _, j => if j = 0 then iprop(entry (F := F) d 0 ∗ entry (F := F) d 1) else iprop(entry (F := F) d 2 ∗ entry (F := F) d 3)
  | .cr q, _, j => facts (F := F) (dest d q) q (j + 1)
  | .rsS q, _, _ => anyPt (F := F) d (stageM q)
  | .rsR q p, r, _ => owns (d : Thread nD τ) (slotM q p) fullShare (acc D (2 * r + p.val) (orig d q) q)
  | .agS q, r, _ => pt (F := F) d (gatS (agChunk d q r) q) fullShare.left (gatC D)
  | .agR q s, _, _ => pt (F := F) d (gatS (agChunk d q (s.val + 1)) q) fullShare (gatC D)

instance payOf_storable (d : Dev nD) (u : Use) (r j : ℕ) : BI.Storable (upEmb : UEmb _ 𝕄) (payOf (F := F) D d u r j) := by
  cases u
  case bar => unfold payOf; by_cases h : j = 0 <;> simp only [h, if_true, if_false] <;> infer_instance
  all_goals unfold payOf; infer_instance

/-- The duties of a round, by use. -/
def dutOf : Use → ℕ → Finset ℕ
  | .off, _ => ∅
  | .bar, r => if r = 0 then Finset.range 2 else ∅
  | .cr _, r => if r = 0 then Finset.range 7 else ∅
  | .rsS _, r => if r < 7 then {0} else ∅
  | .rsR _ p, r => if r < 4 - p.val then {0} else ∅
  | .agS _, r => if r < 7 then {0} else ∅
  | .agR _ _, r => if r < 1 then {0} else ∅

/-- A duty's amount, by use. -/
def amtOf : Use → ℕ
  | .bar => 1
  | .cr _ => 1
  | _ => NB
theorem amtOf_pos (u : Use) : 0 < amtOf u := by cases u <;> first | exact Nat.one_pos | exact NB_pos

/-- The protocol. -/
def Rd : Rounds.Schedule (GSem nD τ sig) ℕ 𝕄 where
  duties g r := dutOf (use g.2) r
  unitless _ := False
  amount g _ _ := amtOf (use g.2)
  payload g r j := payOf D g.1.1 (use g.2) r j
  amount_pos g _ _ _ := amtOf_pos _

instance Rd_payload_storable (g : GSem nD τ sig) (r : ℕ) (j : ℕ) : BI.Storable (upEmb : UEmb _ 𝕄) ((Rd (F := F) D).payload g r j) :=
  payOf_storable D g.1.1 (use g.2) r j

section At
variable (d : Dev nD) {sm : SemLoc sig} {u : Use} (h : use sm = u) (r j : ℕ)
include h
theorem dut_at : (Rd D).duties ((d : Thread nD τ), sm) r = dutOf u r := by subst h; rfl
theorem amt_at : (Rd D).amount ((d : Thread nD τ), sm) r j = amtOf u := by subst h; rfl
theorem pay_at : (Rd D).payload ((d : Thread nD τ), sm) r j = payOf D d u r j := by subst h; rfl
theorem expect_at : (Rd D).expect ((d : Thread nD τ), sm) r = (dutOf u r).card * amtOf u := by
  unfold Schedule.expect Schedule.amountOf
  rw [dut_at D d h, Finset.sum_congr rfl fun j _ => amt_at D d h r j, Finset.sum_const, smul_eq_mul]
/-- A round of one duty hands over that duty's payload. -/
theorem rest_at (hd : dutOf u r = {0}) :
    bigSep ((Rd D).duties ((d : Thread nD τ), sm) r \ ∅) (fun j => (Rd D).payload ((d : Thread nD τ), sm) r j) = payOf D d u r 0 := by
  rw [Finset.sdiff_empty, dut_at D d h, hd, bigSep_singleton, pay_at D d h]
end At

/-! ## Who pays what, in which order -/

/-- A payment to another device: to the left (`false`) or right barrier; a reduction transfer; a credit; a gathering transfer. -/
abbrev Pay : Type := Bool ⊕ (Fin 4 × Fin 7) ⊕ (Fin 4 × Fin 7) ⊕ (Fin 4 × Fin 7)
abbrev Pay.rs (q : Fin 4) (s : Fin 7) : Pay := .inr (.inl (q, s))
abbrev Pay.cr (q : Fin 4) (s : Fin 7) : Pay := .inr (.inr (.inl (q, s)))
abbrev Pay.ag (q : Fin 4) (s : Fin 7) : Pay := .inr (.inr (.inr (q, s)))

/-- A stream's place in the kernel's order. -/
def ord (q : Fin 4) : ℕ := (![0, 2, 1, 3] : Fin 4 → ℕ) q
/-- When a payment is made. -/
def pos : Pay → ℕ
  | .inl b => if b then 2 else 1
  | .inr (.inl (q, s)) => if s.val = 0 then 3 + ord q else 8 + 2 * (4 * (s.val - 1) + ord q)
  | .inr (.inr (.inl (q, s))) => 7 + 2 * (4 * s.val + ord q)
  | .inr (.inr (.inr (q, s))) => if s.val = 0 then 56 + 2 * ord q else 63 + 4 * (s.val - 1) + ord q
theorem pos_inj : ∀ p p' : Pay, pos p = pos p' → p = p' := by decide +kernel
theorem pos_lt : ∀ p : Pay, pos p < 87 := by decide +kernel
theorem pos_pos : ∀ p : Pay, 0 < pos p := by decide +kernel

/-- Who is paid. -/
def payTo (d : Dev nD) : Pay → Dev nD
  | .inl b => if b then right d else left d
  | .inr (.inl (q, _)) => dest d q
  | .inr (.inr (.inl (q, _))) => orig d q
  | .inr (.inr (.inr (q, _))) => dest d q
/-- Who pays. -/
def payBy (d : Dev nD) : Pay → Dev nD
  | .inl b => if b then left d else right d
  | .inr (.inl (q, _)) => orig d q
  | .inr (.inr (.inl (q, _))) => dest d q
  | .inr (.inr (.inr (q, _))) => orig d q
theorem right_left : ∀ d, right (left d) = d := by decide +kernel
theorem left_right : ∀ d, left (right d) = d := by decide +kernel
theorem dest_orig : ∀ d q, dest (orig d q) q = d := by decide +kernel
theorem orig_dest : ∀ d q, orig (dest d q) q = d := by decide +kernel
theorem payTo_payBy (p : Pay) (d : Dev nD) : payTo (payBy d p) p = d := by
  rcases p with b | ⟨q, s⟩ | ⟨q, s⟩ | ⟨q, s⟩
  · cases b <;> simp [payTo, payBy, right_left, left_right]
  · exact dest_orig d q
  · exact orig_dest d q
  · exact dest_orig d q
theorem payBy_payTo (p : Pay) (d : Dev nD) : payBy (payTo d p) p = d := by
  rcases p with b | ⟨q, s⟩ | ⟨q, s⟩ | ⟨q, s⟩
  · cases b <;> simp [payTo, payBy, right_left, left_right]
  · exact orig_dest d q
  · exact dest_orig d q
  · exact orig_dest d q
/-- The devices, moved along a payment. -/
def payEquiv (p : Pay) : Dev nD ≃ Dev nD := ⟨fun d => payTo d p, fun d => payBy d p, fun d => payBy_payTo p d, fun d => payTo_payBy p d⟩

/-- Which semaphore, round and duty are paid, and how much. -/
def paySem : Pay → SemLoc sig
  | .inl _ => .reg barS
  | .inr (.inl (q, s)) => .dma (rsRecvS q (par s))
  | .inr (.inr (.inl (q, _))) => .reg (credS q)
  | .inr (.inr (.inr (q, s))) => .dma (agRecvS q s)
def payRound : Pay → ℕ
  | .inr (.inl (_, s)) => s.val / 2
  | _ => 0
def payDuty : Pay → ℕ
  | .inl b => if b then 1 else 0
  | .inr (.inr (.inl (_, s))) => s.val
  | _ => 0
def payAmt : Pay → ℕ
  | .inr (.inl _) => NB
  | .inr (.inr (.inr _)) => NB
  | _ => 1
theorem payAmt_pos (p : Pay) : 0 < payAmt p := by
  rcases p with b | ⟨q, s⟩ | ⟨q, s⟩ | ⟨q, s⟩ <;> first | exact Nat.one_pos | exact NB_pos

abbrev payCell (d : Dev nD) (p : Pay) : GSem nD τ sig := ((d : Thread nD τ), paySem p)
/-- What `d` owes for one payment. -/
def owe (d : Dev nD) (p : Pay) : CellTallies nD τ sig ℕ := tallyAt (payCell (payTo d p) p) (pos p) (payAmt p)
/-- What `d` owes from position `n` on. -/
def O (d : Dev nD) (n : ℕ) : CellTallies nD τ sig ℕ := ∑ p ∈ Finset.univ.filter (fun p : Pay => n ≤ pos p), owe d p

theorem O_pay (d : Dev nD) (p : Pay) : O d (pos p) = O d (pos p + 1) + owe d p := by
  unfold O
  have h : Finset.univ.filter (fun p' : Pay => pos p ≤ pos p') = insert p (Finset.univ.filter fun p' : Pay => pos p + 1 ≤ pos p') := by
    ext p'
    simp only [Finset.mem_filter, Finset.mem_univ, true_and, Finset.mem_insert]
    constructor
    · intro h
      rcases Nat.eq_or_lt_of_le h with e | e
      · exact Or.inl (pos_inj _ _ e.symm)
      · exact Or.inr e
    · rintro (rfl | h) <;> omega
  rw [h, Finset.sum_insert (by simp), add_comm]
theorem O_end (d : Dev nD) : O d 87 = 0 := by
  unfold O
  rw [Finset.filter_false_of_mem (fun p _ => by have := pos_lt p; omega), Finset.sum_empty]

theorem O_pos {d : Dev nD} {n : ℕ} {g : GSem nD τ sig} {i : ℕ} (h : 0 < O d n g i) : ∃ p, n ≤ pos p ∧ i = pos p ∧ g = payCell (payTo d p) p := by
  unfold O at h
  rw [Finset.sum_apply, Finsupp.finset_sum_apply] at h
  obtain ⟨p, hp, hne⟩ := Finset.exists_ne_zero_of_sum_ne_zero (Nat.pos_iff_ne_zero.mp h)
  refine ⟨p, (Finset.mem_filter.mp hp).2, ?_⟩
  unfold owe at hne
  rw [tallyAt_apply] at hne
  by_contra hn
  exact hne (if_neg fun h' => hn ⟨h'.2, h'.1⟩)

/-- Every index a device may wait at, and its level: the payment's position. -/
def L (g : GSem nD τ sig) : Finset ℕ := if g.1.2 = .tc then Finset.range 87 else ∅
def lv (_ : GSem nD τ sig) (i : ℕ) : ℕ := i
theorem L_of_ne (g : GSem nD τ sig) (h : g.1.2 ≠ .tc) : L g = ∅ := if_neg h
theorem L_tc (d : Dev nD) (sm : SemLoc sig) : L ((d : Thread nD τ), sm) = Finset.range 87 := if_pos rfl

/-- A device may wait at indices below everything it still owes. -/
theorem mayOwe (d : Dev nD) (N : Waits sig ℕ) (b n : ℕ) (hN : ∀ x ∈ N, x.2 ≤ b) (hb : b < n) (hb' : b < 87) :
    (levAts L lv : sProp 𝕄) ⊢ MayOwe (d : Thread nD τ) N (O d n) := by
  refine MayOwe.of_cut (L := L) (lev := lv) b (fun p hp => by rw [L_tc]; exact Finset.mem_range.mpr (lt_of_le_of_lt (hN p hp) hb')) ?_ hN ?_
  · intro g i h
    obtain ⟨p, -, rfl, rfl⟩ := O_pos h
    rw [L_tc]; exact Finset.mem_range.mpr (pos_lt p)
  · intro g i h
    obtain ⟨p, hp, rfl, rfl⟩ := O_pos h
    exact lt_of_lt_of_le hb hp
theorem mayWait (d : Dev nD) (sm : SemLoc sig) (i n : ℕ) (h : i < n) (h' : i < 87) :
    (levAts L lv : sProp 𝕄) ⊢ MayWait (d : Thread nD τ) sm i (O d n) :=
  mayOwe d _ i n (fun x hx => by rw [Finset.mem_singleton.mp hx]) h h'

end Cert.KernelIdeal.Mesh

end
-- ==== Proof.Mesh.Steps.lean ====
/- One rule for each stage of the body: what it takes and what it gives back. -/
module

public import proofs.«01_k».proof.Proof.Mesh.Sched

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

abbrev 𝒱₀ : Variants := Variants.none

/-- What the rest of the body on device `d` needs. -/
abbrev WP (d : Dev nD) (k : P F) (Ψ : PUnit.{1} → sProp 𝕄) : sProp 𝕄 :=
  wp frame (wpE (defs₀ (F := F)) 𝒱₀ (d : Thread nD τ) none) Set.univ k Ψ

/-! ## The cells, listed -/

/-- The semaphores of the protocol: five regular, then the transfers' from the sixth on. -/
def csem (i : Fin 49) : SemLoc sig := if h : i.val < 5 then .reg ⟨i.val, h⟩ else .dma ⟨i.val, i.isLt⟩
/-- A semaphore's place in the list. -/
def num : SemLoc sig → Fin 49
  | .reg i => ⟨i.val, lt_of_lt_of_le i.isLt (by decide)⟩
  | .dma i => ⟨i.val, i.isLt⟩
theorem csem_num {sm : SemLoc sig} (h : use sm ≠ .off) : csem (num sm) = sm := by
  cases sm with
  | reg i => exact dif_pos i.isLt
  | dma i =>
    refine dif_neg fun hi => h ?_
    unfold use; exact if_pos hi
theorem num_csem : ∀ i, num (csem i) = i := by decide +kernel
theorem use_csem : ∀ i, use (csem i) ≠ .off := by decide +kernel
theorem csem_inj : Function.Injective csem := fun i j h => by rw [← num_csem i, h, num_csem]
abbrev kcell (x : Dev nD × Fin 49) : GSem nD τ sig := ((x.1 : Thread nD τ), csem x.2)

variable (D : Data F)

/-- The names of the cells' and the slots' invariants. -/
structure Names where
  /-- a cell's -/
  cell : Dev nD × Fin 49 → ℕ
  /-- a slot's -/
  slot : Key → ℕ

variable (K : Names)

/-- What every device knows throughout. -/
def ctx : sProp 𝕄 :=
  iprop((bigSep Finset.univ fun x : Dev nD × Fin 49 => cellInv ER (Rd D) (K.cell x) (kcell x))
    ∗ (bigSep Finset.univ fun x : Dev nD × Fin 49 => reached ER (kcell x) 0)
    ∗ (bigSep Finset.univ fun k : Key => slotInv EK (K.slot k) k (slotP k)) ∗ levAts L lv)
instance ctx_persistent : BI.Persistent (ctx D K) := by unfold ctx; infer_instance

theorem bigSep_at {I : Type} [Fintype I] [DecidableEq I] (Φ : I → sProp 𝕄) (i : I) : bigSep Finset.univ Φ ⊢ Φ i := bigSep_elim (Finset.mem_univ i)

theorem ctx_inv (d : Dev nD) {sm : SemLoc sig} (h : use sm ≠ .off) : ctx D K ⊢ cellInv ER (Rd D) (K.cell (d, num sm)) ((d : Thread nD τ), sm) := by
  have e : cellInv ER (Rd D) (K.cell (d, num sm)) (kcell (d, num sm)) ⊢ cellInv ER (Rd D) (K.cell (d, num sm)) ((d : Thread nD τ), sm) :=
    Entails.of_eq (by unfold kcell; rw [csem_num h])
  unfold ctx
  iintro ⟨H, -, -, -⟩
  iapply e
  iapply (bigSep_at (fun x : Dev nD × Fin 49 => cellInv ER (Rd D) (K.cell x) (kcell x)) (d, num sm))
  iexact H
theorem ctx_reached (d : Dev nD) {sm : SemLoc sig} (h : use sm ≠ .off) : ctx D K ⊢ reached ER ((d : Thread nD τ), sm) 0 := by
  have e : reached ER (kcell (d, num sm)) 0 ⊢ (reached ER ((d : Thread nD τ), sm) 0 : sProp 𝕄) := Entails.of_eq (by unfold kcell; rw [csem_num h])
  unfold ctx
  iintro ⟨-, H, -, -⟩
  iapply e
  iapply (bigSep_at (fun x : Dev nD × Fin 49 => (reached ER (kcell x) 0 : sProp 𝕄)) (d, num sm))
  iexact H
theorem ctx_slot (k : Key) : ctx D K ⊢ slotInv EK (K.slot k) k (slotP k) := by
  unfold ctx
  iintro ⟨-, -, H, -⟩
  iapply (bigSep_at (fun k : Key => (slotInv EK (K.slot k) k (slotP k) : sProp 𝕄)) k)
  iexact H
theorem ctx_lev : ctx D K ⊢ levAts L lv := by
  unfold ctx
  iintro ⟨-, -, -, H⟩
  iexact H

theorem on_rsS (q) : use (.dma (rsSendS q)) ≠ .off := by rw [use_rsS]; nofun
theorem on_rsR (q p) : use (.dma (rsRecvS q p)) ≠ .off := by rw [use_rsR]; nofun
theorem on_agS (q) : use (.dma (agSendS q)) ≠ .off := by rw [use_agS]; nofun
theorem on_agR (q s) : use (.dma (agRecvS q s)) ≠ .off := by rw [use_agR]; nofun
theorem on_cr (q) : use (.reg (credS q)) ≠ .off := by rw [use_cr]; nofun
theorem on_bar : use (.reg barS) ≠ .off := by rw [use_bar]; nofun

/-! ## What is held -/

/-- What `d` owes from position `n` on, whatever it waited for. -/
def ow (d : Dev nD) (n : ℕ) : sProp 𝕄 := iprop(∃ W, owes (d : Thread nD τ) (O d n) W)
/-- The right to make a payment. -/
def tok (d : Dev nD) (p : Pay) : sProp 𝕄 := dutyTok ER (payCell (payTo d p) p) (payRound p) (payDuty p)
/-- The right to wait for a payment. -/
def crd (c : Dev nD) (p : Pay) : sProp 𝕄 := cred (tallyAt (payCell c p) (pos p) (payAmt p))

theorem parN_val (s : Fin 7) : parN s.val = par s := rfl
theorem two_div (t : ℕ) : 2 * (t / 2) + (parN t).val = t := by show 2 * (t / 2) + t % 2 = t; omega

/-! ## Whole-memref stores -/

theorem hz2 : (![0, 0] : Fin 2 → ℕ) = fun _ => 0 := funext fun a => by fin_cases a <;> rfl

/-- A memref's elements, holding contents that read as `X`. -/
theorem owns_intro (d : Dev nD) {sp : Space} {s : Shape} {e : EltTy} (m : Memref sig .tc sp s e) (f) :
    pt (F := F) d m fullShare f ⊢ owns (d : Thread nD τ) m fullShare (m.view.read (Elt F) f) := by
  unfold pt owns
  iintro H; iexists f; isplitr; · (ipureintro; rfl)
  iexact H
theorem owns_any (d : Dev nD) {sp : Space} {s : Shape} {e : EltTy} (m : Memref sig .tc sp s e) (X) :
    (owns (d : Thread nD τ) m fullShare X : sProp 𝕄) ⊢ anyPt (F := F) d m := by
  unfold anyPt pt owns
  iintro ⟨%f, -, H⟩; iexists f; iexact H

theorem stage_write (v : S128x2048.Idx → Elt F .bf16) : ∀ (q) (f : (stageM q).view.ty.Contents (Elt F)), (stageM q).view.read (Elt F)
    (((stageM q).access (Rect.unit (s := S128x2048) ![0, 0] S128x2048.size inb_S128x2048_S128x2048_0_0)).write (Elt F) f v Finset.univ) = v
  | 0, f => (congrArg (View.read (Elt F) (View.whole cc0_scratch5)) (Memref.write_access_unit_zero_univ (Elt F) cc0_scratch5 hz2 inb_S128x2048_S128x2048_0_0 f v)).trans (View.read_whole _ _)
  | 1, f => (congrArg (View.read (Elt F) (View.whole cc0_scratch6)) (Memref.write_access_unit_zero_univ (Elt F) cc0_scratch6 hz2 inb_S128x2048_S128x2048_0_0 f v)).trans (View.read_whole _ _)
  | 2, f => (congrArg (View.read (Elt F) (View.whole cc0_scratch7)) (Memref.write_access_unit_zero_univ (Elt F) cc0_scratch7 hz2 inb_S128x2048_S128x2048_0_0 f v)).trans (View.read_whole _ _)
  | 3, f => (congrArg (View.read (Elt F) (View.whole cc0_scratch8)) (Memref.write_access_unit_zero_univ (Elt F) cc0_scratch8 hz2 inb_S128x2048_S128x2048_0_0 f v)).trans (View.read_whole _ _)

section Stages
variable (d : Dev nD) (q : Fin 4) (k : P F) (Ψ : PUnit.{1} → sProp (MT nD τ sig ℕ (Elt F) ℕ UU ℕ))

/-- A store through a view with what the contents `g` read there leaves `g` there. -/
theorem write_pt {sp : Space} {s : Shape} {e : EltTy} (m : Memref sig .tc sp s e) (r : Rect s) (f g : Buf (Elt F) (m.view.loc (d : Thread nD τ)))
    (w : r.shape.Idx → Elt F e) (hw : (m.access r).read (Elt F) g = w) :
    ((m.access r).loc (d : Thread nD τ) ↦[(m.access r).set]{fullShare} ((m.access r).write (Elt F) f w Finset.univ) : sProp 𝕄)
      = ((m.access r).loc (d : Thread nD τ) ↦[(m.access r).set]{fullShare} g) := by
  subst hw
  refine pointsTo_congr fun i hi => ?_
  rw [View.write_read_eq_piecewise]
  exact Finset.piecewise_eq_of_mem _ _ _ hi

theorem put_stage (v : FVec F S128x2048 .bf16) :
    anyPt (F := F) d (stageM q) ⊢ iprop((owns (d : Thread nD τ) (stageM q) fullShare v -∗ WP d k Ψ) -∗ WP d (putStage q v k) Ψ) := by
  unfold anyPt pt putStage
  iintro ⟨%f, H⟩ Hk
  have hS : (stageM q).view.setOn (Rect.unit (s := S128x2048) ![0, 0] S128x2048.size inb_S128x2048_S128x2048_0_0).toLoadRect.set ⊆ (stageM q).view.set :=
    View.setOn_subset_set _ _
  iapply (wp_load 𝒱₀ (d : Thread nD τ) none Set.univ (m := stageM q) hS) $$ H; iintro H
  iapply (wp_store 𝒱₀ (d : Thread nD τ) none Set.univ (m := stageM q) (r := Rect.unit (s := S128x2048) ![0, 0] S128x2048.size inb_S128x2048_S128x2048_0_0)
    (Mk := Finset.univ) (View.set_slice_subset _ _)) $$ H
  iintro H
  iapply Hk
  unfold owns
  iexists ((stageM q).access (Rect.unit (s := S128x2048) ![0, 0] S128x2048.size inb_S128x2048_S128x2048_0_0)).write (Elt F) f v Finset.univ
  isplitr
  · ipureintro
    exact stage_write v q f
  iexact H

/-- A stream's buffer sent into the next device's slot. -/
def rsSendTo (n : Dev nD) (p : Fin 2) : P F :=
  .op (.enqueueDma (stageM q) (.remote (Dev.tc n) (slotM q p) (.dma (rsSendS q))) (.dma (rsRecvS q p)) (stageM_whole q).wordExact (slotM_words q p) ⟨⟨rfl, Or.inl rfl⟩, trivial⟩) fun _ => k

theorem hop_lt4 (t : Fin 7) : t.val / 2 < 4 - (parN t.val).val := by
  have := t.isLt; show t.val / 2 < 4 - t.val % 2; omega

theorem dut_rsS (r : ℕ) (h : r < 7) : dutOf (.rsS q) r = {0} := if_pos h
theorem dut_rsR (p : Fin 2) (r : ℕ) (h : r < 4 - p.val) : dutOf (.rsR q p) r = {0} := if_pos h
theorem dut_agS (r : ℕ) (h : r < 7) : dutOf (.agS q) r = {0} := if_pos h
theorem dut_agR (s : Fin 7) : dutOf (.agR q s) 0 = {0} := rfl
theorem mem_rsS (r : ℕ) (h : r < 7) : 0 ∈ (Rd D).duties (rsSCell d q) r := by rw [dut_at D d (use_rsS q), dut_rsS q r h]; exact Finset.mem_singleton_self 0
theorem mem_rsR (p : Fin 2) (r : ℕ) (h : r < 4 - p.val) : 0 ∈ (Rd D).duties (rsRCell d q p) r := by
  rw [dut_at D d (use_rsR q p), dut_rsR q p r h]; exact Finset.mem_singleton_self 0
theorem mem_agS (r : ℕ) (h : r < 7) : 0 ∈ (Rd D).duties (agSCell d q) r := by rw [dut_at D d (use_agS q), dut_agS q r h]; exact Finset.mem_singleton_self 0
theorem mem_agR (s : Fin 7) : 0 ∈ (Rd D).duties (agRCell d q s) 0 := by rw [dut_at D d (use_agR q s), dut_agR q s]; exact Finset.mem_singleton_self 0

theorem rs_send_to (t : Fin 7) (n : Dev nD) (hn : n = dest d q) :
    iprop(ctx D K ∗ ow d (pos (Pay.rs q t)) ∗ owns (d : Thread nD τ) (stageM q) fullShare (acc D t.val d q) ∗ tok d (Pay.rs q t)
        ∗ writeTok EK (dest d q, q, parN t.val) (t.val / 2 + 1) ∗ fact (F := F) (dest d q) q t.val ∗ dutyTok ER (rsSCell d q) t.val 0 ∗ reached ER (rsSCell d q) t.val)
      ⊢ iprop(((ow d (pos (Pay.rs q t) + 1) ∗ cred (tallyAt (rsSCell d q) 0 NB)) -∗ WP d k Ψ) -∗ WP d (rsSendTo q k n (par t)) Ψ) := by
  subst hn
  unfold rsSendTo ow owns tok fact
  iintro ⟨#Hc, ⟨%W, HO⟩, ⟨%f, %hf, Hs⟩, Ht, Hw, ⟨#Hrel, #Hr⟩, Hts, #Hrs⟩ Hk
  ihave #Hsl := (ctx_slot D K (dest d q, q, parN t.val)) $$ Hc
  imod (slot_take EK (Set.mem_univ (K.slot (dest d q, q, parN t.val))) (t.val / 2 + 1)) $$ [Hw] with Hd
  · isplitr; · iexact Hsl
    isplitr; · iexact Hrel
    iexact Hw
  unfold slotP slot
  icases Hd with ⟨%fd, Hd⟩
  iapply (Rounds.wp_send_pointsTo 𝒱₀ ER (Rd D) (d : Thread nD τ) none (κ₁ := K.cell (d, num (.dma (rsSendS q)))) (κ₂ := K.cell (dest d q, num (.dma (rsRecvS q (par t)))))
    (c' := (dest d q : Thread nD τ)) (sem := .dma (rsRecvS q (par t))) (dst := slotM q (par t)) (r₁ := t.val) (r₂ := t.val / 2) (d₁ := 0) (d₂ := 0) (fd := fd)
    (mem_rsS D d q t.val t.isLt)
    (mem_rsR D (dest d q) q (par t) _ (hop_lt4 t))
    (pos (Pay.rs q t)) 0 NB (slot_credit q (par t)) (amt_at D d (use_rsS q) _ _) (amt_at D _ (use_rsR q _) _ _) (O d (pos (Pay.rs q t) + 1)) (O_pay d (Pay.rs q t)) (W := W)
    (by rw [pay_at D d (use_rsS q)]; unfold payOf anyPt pt; iintro H; iexists f; iexact H)
    (by
      rw [pay_at D _ (use_rsR q _)]
      have e : (slotM q (par t)).view.read (Elt F) ((slotM q (par t)).view.write (Elt F) fd ((stageM q).view.read (Elt F) f) Finset.univ)
          = acc D (2 * (t.val / 2) + (par t).val) (orig (dest d q) q) q := by
        rw [View.read_write_univ, hf, orig_dest, show 2 * (t.val / 2) + (par t).val = t.val from two_div t.val]
      unfold payOf owns
      iintro H; iexists _; isplitr; · (ipureintro; exact e)
      iexact H)) $$ [HO Hs Hd Ht Hts]
  · isplitr; · iapply (ctx_inv D K d (on_rsS q)); iexact Hc
    isplitr; · iapply (ctx_inv D K (dest d q) (on_rsR q _)); iexact Hc
    isplitl [Hs]; · iexact Hs
    isplitl [Hd]; · iexact Hd
    isplitl [HO]; · iexact HO
    isplitl [Hts]; · iexact Hts
    isplitr; · iexact Hrs
    isplitl [Ht]; · iexact Ht
    iexact Hr
  iintro ⟨Hcr, HO⟩
  iapply Hk
  isplitl [HO]
  · iexists W; iexact HO
  iexact Hcr
/-- What a reduction transfer takes and gives. -/
theorem rs_send (t : Fin 7) :
    iprop(ctx D K ∗ ow d (pos (Pay.rs q t)) ∗ owns (d : Thread nD τ) (stageM q) fullShare (acc D t.val d q) ∗ tok d (Pay.rs q t)
        ∗ writeTok EK (dest d q, q, parN t.val) (t.val / 2 + 1) ∗ fact (F := F) (dest d q) q t.val ∗ dutyTok ER (rsSCell d q) t.val 0 ∗ reached ER (rsSCell d q) t.val)
      ⊢ iprop(((ow d (pos (Pay.rs q t) + 1) ∗ cred (tallyAt (rsSCell d q) 0 NB)) -∗ WP d k Ψ) -∗ WP d (rsSend d q (par t) k) Ψ) :=
  rs_send_to D K d q k Ψ t _ (sendDev_eq d q)

/-! ## Waiting for one transfer -/

/-- A wait for a round of one transfer, at index `i` below what is owed. -/
theorem wait_one {w : TpuEff nD τ sig (Elt F) Λ₀ .tc PUnit} {sm : SemLoc sig} {u : Use} (hu : use sm = u) (hoff : u ≠ .off) (r i n : ℕ) (hd : dutOf u r = {0}) (hN : amtOf u = NB) {X : sProp (MT nD τ sig ℕ (Elt F) ℕ UU ℕ)} (hX : payOf D d u r 0 = X) {N : ℕ} (hNB : N = NB)
    (hw : ∀ Φ : PUnit → sProp 𝕄, wpE' (defs₀ (F := F)) 𝒱₀ (d : Thread nD τ) none ∅ Set.univ w Φ = waitSpec (d : Thread nD τ) Set.univ sm N Φ)
    (hi : i < n) (hi' : i < 87) :
    iprop(ctx D K ∗ ow d n ∗ cred (tallyAt ((d : Thread nD τ), sm) i NB) ∗ atPos ER ((d : Thread nD τ), sm) r ∅ 0)
      ⊢ iprop(((ow d n ∗ atPos ER ((d : Thread nD τ), sm) (r + 1) ∅ 0 ∗ reached ER ((d : Thread nD τ), sm) (r + 1) ∗ X) -∗ WP d k Ψ)
          -∗ WP d (.op w fun _ => k) Ψ) := by
  subst hNB hX
  unfold ow
  iintro ⟨#Hc, ⟨%W, HO⟩, Hcr, Hat⟩ Hk
  iapply (Rounds.wp_wait_rest_token 𝒱₀ ER (Rd D) (d : Thread nD τ) none (κ := K.cell (d, num sm)) hw (Set.mem_univ _) i (O := O d n) (W := W) (R := r) (m := 0) (T := ∅)
      (by rw [expect_at D d hu, hd, hN]; simp)) $$ [HO Hcr Hat]
  · isplitr; · iapply (ctx_inv D K d (sm := sm) (by rw [hu]; exact hoff)); iexact Hc
    isplitl [Hcr]; · iexact Hcr
    isplitl [HO]; · iexact HO
    isplitr; · iapply (mayWait d sm i n hi hi'); iapply (ctx_lev D K); iexact Hc
    iexact Hat
  iintro ⟨HO, Hat, Hr, Hp⟩
  ihave Hp := (Entails.of_eq (rest_at D d hu r hd)) $$ Hp
  iapply Hk
  isplitl [HO]
  · iexists _; iexact HO
  isplitl [Hat]; · iexact Hat
  isplitl [Hr]; · iexact Hr
  iexact Hp

/-! ## Receiving -/

/-- Where stream `q` of `d` stands before reduction hop `t`: the receive semaphore's round and the slot's count. -/
def hopAt (t : ℕ) : sProp 𝕄 := iprop(atPos ER (rsRCell d q (parN t)) (t / 2) ∅ 0 ∗ readerAt EK (d, q, parN t) (t / 2 + 1))

theorem add_two_div (t : ℕ) : (t + 2) / 2 = t / 2 + 1 := by omega
theorem par_add_two (t : ℕ) : parN (t + 2) = parN t := Fin.ext (by show (t + 2) % 2 = t % 2; omega)

theorem slot_excl (k : Key) : iprop(slotP k ∗ slotP k) ⊢ (False : sProp 𝕄) :=
  slot_slot_false ((slotM k.2.1 k.2.2).view.set_nonempty (by decide))

theorem slot_set (p : Fin 2) : (slotM q p).view.set = (commM q).view.setOn (slotR p).set := by
  show (((commM q).view.slice (slotR p)).reshape S128x2048 _).set = _
  rw [View.set_reshape, View.set_slice]; rfl

theorem whole_setOn (b : Ref sig .tc) (r : Rect b.ty.shape) : (View.whole b).setOn r.set = r.set :=
  (View.set_slice (View.whole b) r).symm.trans (View.set_slice_whole b r)
theorem strip_set_of {o : Fin 2 → ℕ} {c : Fin 8} {q : Fin 4} (e : o = stripOff c q) (h) : (strip o h).set = (stripR c q).set := by subst e; rfl
theorem strip_read_of {o : Fin 2 → ℕ} {c : Fin 8} {q : Fin 4} (e : o = stripOff c q) (h) (f : (cc0_stg4_0 : Ref sig .tc).ty.Contents (Elt F)) :
    outM.view.readAt (Elt F) (strip o h).toLoadRect f = fun j => f ((stripR c q).emb j) := by subst e; rfl

/-- What a reduction hop's receipt takes and gives. -/
theorem rs_recv (s : Fin 7) (kv : FVec F S128x2048 .bf16 → P F) (n : ℕ) (hn : pos (Pay.rs q s) < n) {S : Finset (Idx (outM.view.loc (d : Thread nD τ)))} (hS : (stripR (rsChunk d q s.val) q).set ⊆ S) :
    iprop(ctx D K ∗ ow d n ∗ crd d (Pay.rs q s) ∗ hopAt d q s.val ∗ (outM.view.loc (d : Thread nD τ) ↦[S]{fullShare} prodC D d)
        ∗ cred (tallyAt (rsSCell d q) 0 NB) ∗ atPos ER (rsSCell d q) s.val ∅ 0)
      ⊢ iprop(((ow d n ∗ hopAt d q (s.val + 2) ∗ fact (F := F) d q (s.val + 2) ∗ (outM.view.loc (d : Thread nD τ) ↦[S]{fullShare} prodC D d)
          ∗ anyPt (F := F) d (stageM q) ∗ atPos ER (rsSCell d q) (s.val + 1) ∅ 0 ∗ reached ER (rsSCell d q) (s.val + 1)) -∗ WP d (kv (acc D (s.val + 1) d q)) Ψ)
          -∗ WP d (rsRecv d q s kv) Ψ) := by
  have h87 : pos (Pay.rs q s) < 87 := pos_lt _
  unfold rsRecv hopAt crd
  iintro ⟨#Hc, HO, Hcr, ⟨Hat, Hrd⟩, Hout, Hcs, Hats⟩ Hk
  iapply (wait_one D K d _ Ψ (use_rsR q (par s)) nofun (s.val / 2) (pos (Pay.rs q s)) n (dut_rsR q (par s) _ (hop_lt4 s)) rfl rfl (slot_credit q (par s))
    (wpE_waitDma2_eq 𝒱₀ (d : Thread nD τ) none Set.univ) hn h87) $$ [HO Hcr Hat]
  · isplitr; · iexact Hc
    isplitl [HO]; · iexact HO
    isplitl [Hcr]; · iexact Hcr
    iexact Hat
  iintro ⟨HO, Hat, #Hr, Hp⟩
  unfold payOf owns
  icases Hp with ⟨%f, %hf, Hp⟩
  have hS' : outM.view.setOn (strip (offRs d q s) (offRs_inb d q s)).toLoadRect.set ⊆ S := by
    rw [show outM.view.setOn (strip (offRs d q s) (offRs_inb d q s)).toLoadRect.set = (stripR (rsChunk d q s.val) q).set from
      (whole_setOn cc0_stg4_0 _).trans (strip_set_of (offRs_eq d q s) _)]
    exact hS
  iapply (wp_load 𝒱₀ (d : Thread nD τ) none Set.univ (m := outM) hS') $$ Hout; iintro Hout
  have hS'' : (commM q).view.setOn (slotR (par s)).toLoadRect.set ⊆ (slotM q (par s)).view.set := (slot_set q (par s)).symm.subset
  iapply (wp_load 𝒱₀ (d : Thread nD τ) none Set.univ (m := commM q) hS'') $$ Hp; iintro Hp
  have hv : accPay (outM.view.readAt (Elt F) (strip (offRs d q s) (offRs_inb d q s)).toLoadRect (prodC D d))
      ((commM q).view.readAt (Elt F) (slotR (par s)).toLoadRect f) = acc D (s.val + 1) d q := by
    have e : outM.view.readAt (Elt F) (strip (offRs d q s) (offRs_inb d q s)).toLoadRect (prodC D d) = prodS D d (rsChunk d q s.val) q :=
      strip_read_of (offRs_eq d q s) (offRs_inb d q s) (prodC D d)
    have e' : shapeCast S128x2048 ((commM q).view.readAt (Elt F) (slotR (par s)).toLoadRect f) shapeCasts_S1x128x2048_S128x2048 = acc D s.val (orig d q) q := by
      have h2 : 2 * (s.val / 2) + (par s).val = s.val := two_div s.val
      rw [h2] at hf
      exact hf
    unfold accPay
    rw [e, e']
    rfl
  rw [hv]
  iapply (wait_one D K d _ Ψ (X := anyPt (F := F) d (stageM q)) (use_rsS q) nofun s.val 0 n (dut_rsS q _ s.isLt) rfl rfl (stage_credit q)
    (wpE_waitDma2_eq 𝒱₀ (d : Thread nD τ) none Set.univ) (lt_of_le_of_lt (Nat.zero_le _) hn) (by decide)) $$ [HO Hcs Hats]
  · isplitr; · iexact Hc
    isplitl [HO]; · iexact HO
    isplitl [Hcs]; · iexact Hcs
    iexact Hats
  iintro ⟨HO, Hats, Hrs, Hst⟩
  ihave #Hsl := (ctx_slot D K (d, q, parN s.val)) $$ Hc
  imod (slot_release EK (Set.mem_univ (K.slot (d, q, parN s.val))) (slot_excl (d, q, parN s.val)) (s.val / 2 + 1)) $$ [Hrd Hp] with ⟨Hrd, Hrel⟩
  · isplitr; · iexact Hsl
    isplitl [Hrd]; · iexact Hrd
    unfold slotP slot
    iexists f; iexact Hp
  iapply Hk
  isplitl [HO]; · iexact HO
  unfold fact
  rw [add_two_div, par_add_two]
  isplitl [Hat Hrd]
  · isplitl [Hat]; · iexact Hat
    iexact Hrd
  isplitl [Hrel]
  · isplitl [Hrel]; · iexact Hrel
    iexact Hr
  isplitl [Hout]; · iexact Hout
  isplitl [Hst]; · iexact Hst
  isplitl [Hats]; · iexact Hats
  iexact Hrs

/-! ## Credits -/

/-- A credit given back to the sender. -/
theorem cred_step_to (s : Fin 7) (n : Dev nD) (hn : n = orig d q) :
    iprop(ctx D K ∗ ow d (pos (Pay.cr q s)) ∗ tok d (Pay.cr q s) ∗ facts (F := F) d q (s.val + 1))
      ⊢ iprop((ow d (pos (Pay.cr q s) + 1) -∗ WP d k Ψ) -∗ WP d (.op (.semSignal (n, .tc) (credS q) (1#32 : BitVec 32).toInt) fun _ => k) Ψ) := by
  subst hn
  unfold ow tok
  iintro ⟨#Hc, ⟨%W, HO⟩, Ht, Hf⟩ Hk
  iapply (Rounds.wp_signal 𝒱₀ ER (Rd D) (d : Thread nD τ) none (dst := (orig d q : Thread nD τ)) (κ := K.cell (orig d q, num (.reg (credS q)))) (r := 0)
      (d := s.val) (by rw [dut_at D _ (use_cr q)]; exact Finset.mem_range.mpr s.isLt) (amt_at D _ (use_cr q) 0 _) (pos (Pay.cr q s)) (O d (pos (Pay.cr q s) + 1)) (O_pay d (Pay.cr q s)))
    $$ [HO Ht Hf]
  · isplitr; · iapply (ctx_inv D K (orig d q) (on_cr q)); iexact Hc
    isplitl [HO]; · iexact HO
    isplitl [Ht]; · iexact Ht
    isplitl [Hf]
    · have e : facts (F := F) d q (s.val + 1) ⊢ (Rd D).payload (crCell (orig d q) q) 0 s.val :=
        Entails.of_eq ((pay_at D _ (use_cr q) 0 _).trans (congrArg (fun c => facts (F := F) c q (s.val + 1)) (dest_orig d q))).symm
      iapply e; iexact Hf
    iapply (ctx_reached D K (orig d q) (on_cr q)); iexact Hc
  iintro HO
  iapply Hk
  iexists W; iexact HO
theorem cred_step (s : Fin 7) :
    iprop(ctx D K ∗ ow d (pos (Pay.cr q s)) ∗ tok d (Pay.cr q s) ∗ facts (F := F) d q (s.val + 1))
      ⊢ iprop((ow d (pos (Pay.cr q s) + 1) -∗ WP d k Ψ) -∗ WP d (credStage d q k) Ψ) :=
  cred_step_to D K d q k Ψ s _ (credDev_eq d q)

/-- Stream `q`'s credit semaphore on `d` after `w` waits of one, and what the credits taken told. -/
def crAt (w : ℕ) : sProp 𝕄 :=
  iprop(∃ S : Finset ℕ, ⌜w ≤ S.card ∧ S ⊆ Finset.range 7⌝ ∗ atPos ER (crCell d q) 0 S w ∗ bigSep S fun j => facts (F := F) (dest d q) q (j + 1))

theorem facts_elim (c : Dev nD) {i n : ℕ} (h : i < n) : facts (F := F) c q n ⊢ fact (F := F) c q (i + 2) :=
  bigSep_elim (Finset.mem_range.mpr h)

theorem exists_ge {S : Finset ℕ} {w : ℕ} (h : w + 1 ≤ S.card) : ∃ j ∈ S, w ≤ j := by
  by_contra hn
  have : S ⊆ Finset.range w := fun j hj => Finset.mem_range.mpr (by by_contra h'; exact hn ⟨j, hj, by omega⟩)
  have := Finset.card_le_card this
  rw [Finset.card_range] at this; omega

theorem two_cred (g : GSem nD τ sig) (i j : ℕ) :
    iprop(cred (tallyAt g i 1) ∗ cred (tallyAt g j 1)) ⊢ (cred (tallyOn g (Finsupp.single i 1 + Finsupp.single j 1)) : sProp 𝕄) :=
  (cred_add _ _).2.trans (Entails.of_eq (by unfold tallyAt; rw [← tallyOn_add]))

theorem two_support (sm : SemLoc sig) (i j : ℕ) : (Finsupp.single i 1 + Finsupp.single j 1 : ℕ →₀ ℕ).support.image (sm, ·) ⊆ ({(sm, i), (sm, j)} : Finset (SemLoc sig × ℕ)) := by
  intro x hx
  obtain ⟨y, hy, rfl⟩ := Finset.mem_image.mp hx
  rcases Finset.mem_union.mp (Finsupp.support_add hy) with h | h
  · rw [Finset.mem_singleton.mp (Finsupp.support_single_subset h)]; exact Finset.mem_insert_self _ _
  · rw [Finset.mem_singleton.mp (Finsupp.support_single_subset h)]; exact Finset.mem_insert_of_mem (Finset.mem_singleton_self _)

/-- A wait for one credit: the slot of the hop after next is free. -/
theorem cr_wait (w : Fin 7) (n : ℕ) (hn : pos (Pay.cr q w) < n) :
    iprop(ctx D K ∗ ow d n ∗ crd d (Pay.cr q w) ∗ crAt d q w.val)
      ⊢ iprop(((ow d n ∗ crAt d q (w.val + 1) ∗ fact (F := F) (dest d q) q (w.val + 2)) -∗ WP d k Ψ) -∗ WP d (credWait q 1#32 k) Ψ) := by
  unfold ow crd crAt credWait
  iintro ⟨#Hc, ⟨%W, HO⟩, Hcr, ⟨%T, %hT, Hat, #HT⟩⟩ Hk
  iapply (Rounds.wp_wait 𝒱₀ ER (Rd D) (d : Thread nD τ) none (κ := K.cell (d, num (.reg (credS q)))) (wpE_semWait_eq 𝒱₀ (d : Thread nD τ) none Set.univ) (Set.mem_univ _)
      (cr := Finsupp.single (pos (Pay.cr q w)) 1) (O := O d n) (W := W) {(.reg (credS q), pos (Pay.cr q w))} (R := 0) (m := w.val) (T := T)
      (by rw [Util.total_single]; decide) (image_single_subset _ _ _)) $$ [HO Hcr Hat]
  · isplitr; · iapply (ctx_inv D K d (on_cr q)); iexact Hc
    isplitl [Hcr]; · iexact Hcr
    isplitl [HO]; · iexact HO
    isplitr; · iapply (mayWait d _ _ n hn (pos_lt _)); iapply (ctx_lev D K); iexact Hc
    iexact Hat
  iintro %S ⟨%hS, HO, Hat, Hp⟩
  obtain ⟨hTS, hSd, hcard⟩ := hS
  rw [dut_at D d (use_cr q), expect_at D d (use_cr q)] at hcard
  rw [dut_at D d (use_cr q)] at hSd
  have hd7 : dutOf (.cr q) 0 = Finset.range 7 := rfl
  have ha1 : amtOf (.cr q) = 1 := rfl
  rw [hd7] at hcard hSd
  rw [ha1, Finset.card_sdiff_of_subset hSd, Finset.card_range] at hcard
  have h1 : (1#32 : BitVec 32).toNat = 1 := by decide
  have hc' : w.val + 1 ≤ S.card := by have := Finset.card_le_card hSd; rw [Finset.card_range] at this; omega
  have e : bigSep (S \ T) (fun j => (Rd D).payload (crCell d q) 0 j) ⊢ bigSep (S \ T) fun j => facts (F := F) (dest d q) q (j + 1) :=
    Entails.of_eq (bigSep_congr fun j _ => pay_at D d (use_cr q) 0 j)
  ihave #Hp := e $$ Hp
  have e2 : iprop((bigSep T fun j => facts (F := F) (dest d q) q (j + 1)) ∗ bigSep (S \ T) fun j => facts (F := F) (dest d q) q (j + 1))
      ⊢ bigSep S fun j => facts (F := F) (dest d q) q (j + 1) := by
    refine (bigSep_sep_union T (S \ T)).trans ?_
    rw [Finset.union_sdiff_of_subset hTS]
    exact BI.Entails.refl _
  ihave #HS := e2 $$ [HT Hp]
  · isplitr; · iexact HT
    iexact Hp
  iapply Hk
  isplitl [HO]; · iexists _; iexact HO
  isplitl [Hat]
  · iexists S
    isplitr; · ipureintro; exact ⟨hc', hSd⟩
    isplitl [Hat]; · iexact Hat
    iexact HS
  obtain ⟨j, hj, hwj⟩ := exists_ge hc'
  iapply (facts_elim (F := F) q (dest d q) (show w.val < j + 1 by omega))
  have e3 : (bigSep S fun j => facts (F := F) (dest d q) q (j + 1)) ⊢ facts (F := F) (dest d q) q (j + 1) := bigSep_elim hj
  iapply e3
  iexact HS

/-- The last wait, for two credits: the semaphore's round is over. -/
theorem cr_wait_two (n : ℕ) (hn5 : pos (Pay.cr q 5) < n) (hn : pos (Pay.cr q 6) < n) :
    iprop(ctx D K ∗ ow d n ∗ crd d (Pay.cr q 5) ∗ crd d (Pay.cr q 6) ∗ crAt d q 5)
      ⊢ iprop(((ow d n ∗ atPos ER (crCell d q) 1 ∅ 0) -∗ WP d k Ψ) -∗ WP d (credWait q 2#32 k) Ψ) := by
  unfold ow crd crAt credWait
  iintro ⟨#Hc, ⟨%W, HO⟩, Hc5, Hc6, ⟨%T, %hT, Hat, #HT⟩⟩ Hk
  iapply (Rounds.wp_wait_rest 𝒱₀ ER (Rd D) (d : Thread nD τ) none (κ := K.cell (d, num (.reg (credS q)))) (wpE_semWait_eq 𝒱₀ (d : Thread nD τ) none Set.univ) (Set.mem_univ _)
      (cr := Finsupp.single (pos (Pay.cr q 5)) 1 + Finsupp.single (pos (Pay.cr q 6)) 1) (O := O d n) (W := W)
      {(.reg (credS q), pos (Pay.cr q 5)), (.reg (credS q), pos (Pay.cr q 6))} (R := 0) (m := 5) (T := T)
      (by rw [expect_at D d (use_cr q)]; rfl) (by rw [Util.total_add, Util.total_single, Util.total_single]; decide) (two_support _ _ _)) $$ [HO Hc5 Hc6 Hat]
  · isplitr; · iapply (ctx_inv D K d (on_cr q)); iexact Hc
    isplitl [Hc5 Hc6]
    · iapply (two_cred (F := F) (crCell d q) (pos (Pay.cr q 5)) (pos (Pay.cr q 6)))
      isplitl [Hc5]; · iexact Hc5
      iexact Hc6
    isplitl [HO]; · iexact HO
    isplitr
    · iapply (mayOwe d _ (max (pos (Pay.cr q 5)) (pos (Pay.cr q 6))) n (fun x hx => by
        rcases Finset.mem_insert.mp hx with rfl | hx
        · exact le_max_left _ _
        · rw [Finset.mem_singleton.mp hx]; exact le_max_right _ _) (max_lt hn5 hn) (max_lt (pos_lt _) (pos_lt _)))
      iapply (ctx_lev D K); iexact Hc
    iexact Hat
  iintro ⟨HO, Hat, -, -⟩
  iapply Hk
  isplitl [HO]; · iexists _; iexact HO
  iexact Hat

/-! ## Gathering -/

/-- A finished strip put where it is forwarded from. -/
theorem put_gather_at (c : Fin 8) {o : Fin 2 → ℕ} (e : o = stripOff c q) (h) (hl) (hx) (hm) (v : FVec F S128x2048 .bf16) (hv : fin_ D c q = v) :
    anyPt (F := F) d (gatS c q) ⊢ iprop((pt (F := F) d (gatS c q) fullShare (gatC D) -∗ WP d k Ψ)
      -∗ WP d (.op (.load gatM (strip o h).toLoadRect hl) fun _ => .op (.store gatM (strip o h) v Finset.univ hx hm) fun _ => k) Ψ) := by
  subst e
  unfold anyPt pt
  iintro ⟨%f, H⟩ Hk
  iapply (wp_load_rect 𝒱₀ (d : Thread nD τ) none Set.univ (m := gatM) (r := stripR c q) (S := (gatS c q).view.set) (Finset.Subset.refl _)) $$ H; iintro H
  iapply (wp_store 𝒱₀ (d : Thread nD τ) none Set.univ (m := gatM) (r := stripR c q) (Mk := Finset.univ) (S := (gatS c q).view.set) (Finset.Subset.refl _)) $$ H; iintro H
  iapply Hk
  have e' := write_pt d gatM (stripR c q) f (gatC D) v ((gatC_read D c q).trans hv)
  ihave H' := (Entails.of_eq e') $$ H
  iexact H'
theorem put_gather :
    anyPt (F := F) d (gatS (agChunk d q 0) q) ⊢ iprop((pt (F := F) d (gatS (agChunk d q 0) q) fullShare (gatC D) -∗ WP d k Ψ) -∗ WP d (putGather d q (acc D 7 d q) k) Ψ) :=
  put_gather_at D d q k Ψ _ (offStar_eq d q) _ _ _ _ _ (fin_star D d q)

/-- A strip scaled and clipped into the result. -/
theorem epi_step (c : Fin 8) {o : Fin 2 → ℕ} (e : o = stripOff c q) (h) (sh : PosShare TreeShare) (f : (cc0_stg4_0 : Ref sig .tc).ty.Contents (Elt F)) :
    iprop(pt (F := F) d (gatS c q) sh (gatC D) ∗ pt (F := F) d (outS c q) fullShare f)
      ⊢ iprop(((pt (F := F) d (gatS c q) sh (gatC D) ∗ pt (F := F) d (outS c q) fullShare (outC D d)) -∗ WP d k Ψ) -∗ WP d (epiStage o h (scale D d) k) Ψ) := by
  subst e
  unfold pt epiStage
  iintro ⟨Hg, H⟩ Hk
  iapply (wp_load_rect 𝒱₀ (d : Thread nD τ) none Set.univ (m := gatM) (r := stripR c q) (S := (gatS c q).view.set) (Finset.Subset.refl _)) $$ Hg; iintro Hg
  iapply (wp_load_rect 𝒱₀ (d : Thread nD τ) none Set.univ (m := outM) (r := stripR c q) (S := (outS c q).view.set) (Finset.Subset.refl _)) $$ H; iintro H
  iapply (wp_store 𝒱₀ (d : Thread nD τ) none Set.univ (m := outM) (r := stripR c q) (Mk := Finset.univ) (S := (outS c q).view.set) (Finset.Subset.refl _)) $$ H; iintro H
  iapply Hk
  isplitl [Hg]; · iexact Hg
  have e' := write_pt d outM (stripR c q) f (outC D d) (epiPay (scale D d) ((gatM.access (stripR c q)).read (Elt F) (gatC D)))
    ((outC_read D d c q).trans (by rw [gatC_read]))
  ihave H' := (Entails.of_eq e') $$ H
  iexact H'

theorem agChunk_dest : ∀ (d : Dev nD) (q : Fin 4) (s : Fin 7), agChunk (dest d q) q (s.val + 1) = agChunk d q s.val := by decide +kernel

theorem agSt_words {o : Fin 2 → ℕ} {c : Fin 8} {q : Fin 4} (e : o = stripOff c q) (h) :
    ((gatM.slice (strip o h) (fun _ => rfl)) : Memref sig .tc .vmem S128x2048 .bf16).view.WordExact :=
  (Memref.isWhole_whole _).wordExact_slice rfl _ (strip_words_of e _)
theorem pay_agR (t : Fin 7) : payOf D (dest d q) (.agR q t) 0 0 = pt (F := F) (dest d q) (gatS (agChunk d q t.val) q) fullShare (gatC D) :=
  congrArg (fun c => pt (F := F) (dest d q) (gatS c q) fullShare (gatC D)) (agChunk_dest d q t)

/-- A strip of the gathered array sent to the same rows of device `n`. -/
def agSendTo (t : Fin 7) (n : Dev nD) (c : Fin 8) {o : Fin 2 → ℕ} (e : o = stripOff c q) (h : ∀ a, o a + S128x2048.size a ≤ S4096x2048.size a) : P F :=
  .op (.enqueueDma (gatM.slice (strip o h) (fun _ => rfl)) (.remote (Dev.tc n) (gatM.slice (strip o h) (fun _ => rfl)) (.dma (agSendS q))) (.dma (agRecvS q t))
    (agSt_words e h) (agSt_words e h) ⟨⟨rfl, Or.inl rfl⟩, trivial⟩) fun _ => k
theorem agSend_eq (t : Fin 7) : agSend d q t k = agSendTo q k t (sendDev d q) _ (offAg_eq d q t) (offAg_inb d q t) := rfl
theorem agM_credit (t : Fin 7) : (agM d q t).view.dmaCredit = NB := rfl

/-- A finished strip forwarded. -/
theorem ag_send_at (t : Fin 7) (n : Dev nD) (hn : n = dest d q) {o : Fin 2 → ℕ} (e : o = stripOff (agChunk d q t.val) q) (h) :
    iprop(ctx D K ∗ ow d (pos (Pay.ag q t)) ∗ pt (F := F) d (gatS (agChunk d q t.val) q) fullShare.left (gatC D) ∗ anyPt (F := F) (dest d q) (gatS (agChunk d q t.val) q)
        ∗ tok d (Pay.ag q t) ∗ dutyTok ER (agSCell d q) t.val 0 ∗ reached ER (agSCell d q) t.val)
      ⊢ iprop(((ow d (pos (Pay.ag q t) + 1) ∗ cred (tallyAt (agSCell d q) 0 NB)) -∗ WP d k Ψ)
          -∗ WP d (agSendTo q k t n _ e h) Ψ) := by
  subst hn e
  unfold ow tok anyPt pt agSendTo
  iintro ⟨#Hc, ⟨%W, HO⟩, Hs, ⟨%fd, Hd⟩, Ht, Hts, #Hrs⟩ Hk
  iapply (Rounds.wp_send_pointsTo 𝒱₀ ER (Rd D) (d : Thread nD τ) none (κ₁ := K.cell (d, num (.dma (agSendS q)))) (κ₂ := K.cell (dest d q, num (.dma (agRecvS q t))))
    (c' := (dest d q : Thread nD τ)) (sem := .dma (agRecvS q t)) (src := gatS (agChunk d q t.val) q) (dst := gatS (agChunk d q t.val) q) (r₁ := t.val) (r₂ := 0) (d₁ := 0) (d₂ := 0) (fd := fd)
    (mem_agS D d q t.val t.isLt) (mem_agR D (dest d q) q t)
    (pos (Pay.ag q t)) 0 NB (gat_credit _ q) (amt_at D d (use_agS q) _ _) (amt_at D _ (use_agR q _) _ _) (O d (pos (Pay.ag q t) + 1)) (O_pay d (Pay.ag q t)) (W := W)
    (by rw [pay_at D d (use_agS q)]; unfold payOf pt; exact BI.Entails.refl _)
    (by
      rw [pay_at D _ (use_agR q _), pay_agR]
      exact Entails.of_eq (write_pt (dest d q) gatM (stripR (agChunk d q t.val) q) fd (gatC D) _ rfl))) $$ [HO Hs Hd Ht Hts]
  · isplitr; · iapply (ctx_inv D K d (on_agS q)); iexact Hc
    isplitr; · iapply (ctx_inv D K (dest d q) (on_agR q _)); iexact Hc
    isplitl [Hs]; · iexact Hs
    isplitl [Hd]; · iexact Hd
    isplitl [HO]; · iexact HO
    isplitl [Hts]; · iexact Hts
    isplitr; · iexact Hrs
    isplitl [Ht]; · iexact Ht
    iapply (ctx_reached D K (dest d q) (on_agR q _)); iexact Hc
  iintro ⟨Hcr, HO⟩
  iapply Hk
  isplitl [HO]
  · iexists W; iexact HO
  iexact Hcr
theorem ag_send (t : Fin 7) :
    iprop(ctx D K ∗ ow d (pos (Pay.ag q t)) ∗ pt (F := F) d (gatS (agChunk d q t.val) q) fullShare.left (gatC D) ∗ anyPt (F := F) (dest d q) (gatS (agChunk d q t.val) q)
        ∗ tok d (Pay.ag q t) ∗ dutyTok ER (agSCell d q) t.val 0 ∗ reached ER (agSCell d q) t.val)
      ⊢ iprop(((ow d (pos (Pay.ag q t) + 1) ∗ cred (tallyAt (agSCell d q) 0 NB)) -∗ WP d k Ψ) -∗ WP d (agSend d q t k) Ψ) :=
  ag_send_at D K d q k Ψ t _ (sendDev_eq d q) (offAg_eq d q t) _

end Stages

end Cert.KernelIdeal.Mesh

end
-- ==== Proof.Mesh.Stages.lean ====
/- Further stages: the gathering's receipt, the meeting at entry, the products, the scale. -/
module

public import proofs.«01_k».proof.Proof.Mesh.Steps

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (D : Data F) (K : Names)
variable (d : Dev nD) (q : Fin 4) (k : P F) (Ψ : PUnit.{1} → sProp (MT nD τ sig ℕ (Elt F) ℕ UU ℕ))

/-- A strip of the gathered rows, holding what they end with. -/
def gP (d : Dev nD) (c : Fin 8) (q : Fin 4) (sh : PosShare TreeShare) : sProp 𝕄 := pt (F := F) d (gatS c q) sh (gatC D)

theorem payOf_agR (s : Fin 7) : payOf D d (.agR q s) 0 0 = gP D d (agChunk d q (s.val + 1)) q fullShare := by
  simp only [payOf, gP]
theorem payOf_agS (r : ℕ) : payOf D d (.agS q) r 0 = gP D d (agChunk d q r) q fullShare.left := by
  simp only [payOf, gP]

/-- A gathering hop's receipt. -/
theorem ag_wait (s : Fin 7) (n : ℕ) (hn : pos (Pay.ag q s) < n) :
    iprop(ctx D K ∗ ow d n ∗ crd d (Pay.ag q s) ∗ atPos ER (agRCell d q s) 0 ∅ 0 ∗ cred (tallyAt (agSCell d q) 0 NB) ∗ atPos ER (agSCell d q) s.val ∅ 0)
      ⊢ iprop(((ow d n ∗ atPos ER (agRCell d q s) 1 ∅ 0 ∗ gP D d (agChunk d q (s.val + 1)) q fullShare
          ∗ atPos ER (agSCell d q) (s.val + 1) ∅ 0 ∗ reached ER (agSCell d q) (s.val + 1) ∗ gP D d (agChunk d q s.val) q fullShare.left) -∗ WP d k Ψ)
          -∗ WP d (agWait d q s k) Ψ) := by
  have h87 : pos (Pay.ag q s) < 87 := pos_lt _
  unfold agWait crd
  iintro ⟨#Hc, HO, Hcr, Hat, Hcs, Hats⟩ Hk
  iapply (wait_one D K d _ Ψ (w := .waitDma2 (agRecvS q s) (agM d q s) (agM d q s) (agM_words d q s) (agM_words d q s)) (X := gP D d (agChunk d q (s.val + 1)) q fullShare) (use_agR q s) nofun 0 (pos (Pay.ag q s)) n (dut_agR q s) rfl (payOf_agR D d q s) (agM_credit d q s)
    (wpE_waitDma2_eq 𝒱₀ (d : Thread nD τ) none Set.univ) hn h87) $$ [HO Hcr Hat]
  · isplitr; · iexact Hc
    isplitl [HO]; · iexact HO
    isplitl [Hcr]; · iexact Hcr
    iexact Hat
  iintro ⟨HO, Hat, -, Hp⟩
  iapply (wait_one D K d _ Ψ (w := .waitDma2 (agSendS q) (agM d q s) (agM d q s) (agM_words d q s) (agM_words d q s)) (X := gP D d (agChunk d q s.val) q fullShare.left) (use_agS q) nofun s.val 0 n (dut_agS q _ s.isLt) rfl (payOf_agS D d q _) (agM_credit d q s)
    (wpE_waitDma2_eq 𝒱₀ (d : Thread nD τ) none Set.univ) (lt_of_le_of_lt (Nat.zero_le _) hn) (by decide)) $$ [HO Hcs Hats]
  · isplitr; · iexact Hc
    isplitl [HO]; · iexact HO
    isplitl [Hcs]; · iexact Hcs
    iexact Hats
  iintro ⟨HO, Hats, Hrs, Hst⟩
  iapply Hk
  isplitl [HO]; · iexact HO
  isplitl [Hat]; · iexact Hat
  isplitl [Hp]; · iexact Hp
  isplitl [Hats]; · iexact Hats
  isplitl [Hrs]; · iexact Hrs
  iexact Hst

end Cert.KernelIdeal.Mesh

end
-- ==== Proof.Mesh.Compute.lean ====
/- The stages that compute: one chunk multiplied, a strip rounded, the scales read; and the meeting at the start. -/
module

public import proofs.«01_k».proof.Proof.Mesh.Stages

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (D : Data F) (K : Names)
variable (d : Dev nD) (q : Fin 4) (k : P F) (Ψ : PUnit.{1} → sProp (MT nD τ sig ℕ (Elt F) ℕ UU ℕ))

/-! ## Multiplying -/

theorem chunk_disjoint {c c' : Fin 8} (h : c ≠ c') : Disjoint (chunkR c).set (chunkR c').set :=
  Rect.unit_disjoint 0 (by
    have := Fin.val_ne_of_ne h
    show 512 * c.val + 512 ≤ 512 * c'.val ∨ 512 * c'.val + 512 ≤ 512 * c.val
    omega)

/-- Writing one chunk leaves the others. -/
theorem chunk_write_other {c c' : Fin 8} (h : c' ≠ c) (f : (cc0_stg4_0 : Ref sig .tc).ty.Contents (Elt F)) (v : S512x2048.Idx → Elt F .f32) :
    (outM.access (chunkR c')).read (Elt F) ((outM.access (chunkR c)).write (Elt F) f v Finset.univ) = (outM.access (chunkR c')).read (Elt F) f :=
  View.read_slice_write_slice_of_disjoint (v := outM.view) (chunkR c') (chunkR c) f v Finset.univ (by
    rw [show (outM.view.slice (chunkR c)).setOn Finset.univ = (outM.view.slice (chunkR c)).set from rfl, View.set_slice_whole, View.set_slice_whole]
    exact chunk_disjoint h)

/-- The result's buffer once the first `j` chunks are multiplied. -/
def outAt (j : ℕ) : sProp 𝕄 :=
  iprop(∃ f, ⌜∀ i : Fin 8, i.val < j → (outM.access (chunkR (mulChunk d i))).read (Elt F) f = prod D d (mulChunk d i)⌝ ∗ pt (F := F) d outM fullShare f)

theorem mulChunk_inj : ∀ (d : Dev nD) (i j : Fin 8), mulChunk d i = mulChunk d j → i = j := by decide +kernel
theorem mulChunk_surj : ∀ (d : Dev nD) (c : Fin 8), ∃ i, mulChunk d i = c := by decide +kernel

theorem mul_at (j : Fin 8) {oX oO : Fin 2 → ℕ} (eX : oX = chunkOff (mulChunk d j)) (eO : oO = chunkOff (mulChunk d j)) (hX) (hO) (l₁) (l₂) (l₃) (st) (un) :
    iprop(pt (F := F) d xM fullShare (D.x d) ∗ pt (F := F) d wM fullShare (D.w d) ∗ outAt D d j.val)
      ⊢ iprop(((pt (F := F) d xM fullShare (D.x d) ∗ pt (F := F) d wM fullShare (D.w d) ∗ outAt D d (j.val + 1)) -∗ WP d k Ψ) -∗ WP d
        (.op (.load xM (Rect.unit (s := S4096x512) oX S512x512.size hX).toLoadRect l₁) fun x =>
         .op (.load wM (Rect.unit (s := S512x2048) ![0, 0] S512x2048.size inb_S512x2048_S512x2048_0_0).toLoadRect l₂) fun w =>
         .op (.load outM (Rect.unit (s := S4096x2048) oO S512x2048.size hO).toLoadRect l₃) fun _ =>
         .op (.store outM (Rect.unit (s := S4096x2048) oO S512x2048.size hO) (mulPay x w) Finset.univ st un) fun _ => k) Ψ) := by
  subst eX eO
  unfold outAt pt
  iintro ⟨Hx, Hw, ⟨%f, %hf, H⟩⟩ Hk
  iapply (wp_load 𝒱₀ (d : Thread nD τ) none Set.univ (m := xM) (View.setOn_subset_set _ _)) $$ Hx; iintro Hx
  iapply (wp_load 𝒱₀ (d : Thread nD τ) none Set.univ (m := wM) (View.setOn_subset_set _ _)) $$ Hw; iintro Hw
  iapply (wp_load 𝒱₀ (d : Thread nD τ) none Set.univ (m := outM) (View.setOn_subset_set _ _)) $$ H; iintro H
  iapply (wp_store 𝒱₀ (d : Thread nD τ) none Set.univ (m := outM) (r := chunkR (mulChunk d j)) (Mk := Finset.univ) (View.set_slice_subset _ _)) $$ H; iintro H
  iapply Hk
  isplitl [Hx]; · iexact Hx
  isplitl [Hw]; · iexact Hw
  iexists _
  isplitr
  rotate_left
  · iexact H
  ipureintro
  intro i hi
  by_cases hij : i = j
  · subst hij
    rw [View.read_write_univ]
    refine congrArg (mulPay _) ?_
    exact Memref.readAt_unit_zero (Elt F) cc0_stg1_0 hz2 inb_S512x2048_S512x2048_0_0 (D.w d)
  · rw [chunk_write_other (fun h => hij (mulChunk_inj d i j h))]
    exact hf i (by have := Fin.val_ne_of_ne hij; omega)
/-- One chunk multiplied. -/
theorem mul_step (j : Fin 8) :
    iprop(pt (F := F) d xM fullShare (D.x d) ∗ pt (F := F) d wM fullShare (D.w d) ∗ outAt D d j.val)
      ⊢ iprop(((pt (F := F) d xM fullShare (D.x d) ∗ pt (F := F) d wM fullShare (D.w d) ∗ outAt D d (j.val + 1)) -∗ WP d k Ψ) -∗ WP d (mulStage d j k) Ψ) :=
  mul_at D d k Ψ j (offX_eq d j) (offOut_eq d j) _ _ _ _ _ _ _

theorem emb_chunk (i : S4096x2048.Idx) : ∃ (c : Fin 8) (j : S512x2048.Idx), (chunkR c).emb j = i := by
  have h0 := ValueIdx.idx2_lt0 (n0 := 4096) (n1 := 2048) i
  have hm : i ∈ (chunkR ⟨(i 0).val / 512, by omega⟩).set := Rect.mem_set_unit.mpr fun a => by
    match a with
    | ⟨0, _⟩ => exact ⟨show 512 * ((i 0).val / 512) ≤ (i 0).val by omega, show (i 0).val < 512 * ((i 0).val / 512) + 512 by omega⟩
    | ⟨1, _⟩ => exact ⟨Nat.zero_le _, show (i 1).val < 0 + 2048 by have := ValueIdx.idx2_lt1 (n0 := 4096) (n1 := 2048) i; omega⟩
  rw [← Rect.map_emb_univ] at hm
  obtain ⟨j, -, hj⟩ := Finset.mem_map.mp hm
  exact ⟨_, j, hj⟩
/-- The whole result's buffer, holding the device's product. -/
def oW : sProp 𝕄 := pt (F := F) d outM fullShare (prodC D d)
theorem outAt_all : outAt D d 8 ⊢ oW D d := by
  unfold outAt oW pt
  iintro ⟨%f, %hf, H⟩
  have e : f = prodC D d := by
    funext i
    obtain ⟨c, j, rfl⟩ := emb_chunk i
    obtain ⟨m, rfl⟩ := mulChunk_surj d c
    exact (congrFun (hf m m.isLt) j).trans (congrFun (prodC_read D d (mulChunk d m)) j).symm
  rw [← e]
  iexact H
theorem outAt_zero : anyPt (F := F) d outM ⊢ outAt D d 0 := by
  unfold outAt anyPt
  iintro ⟨%f, H⟩
  iexists f
  isplitr; · (ipureintro; exact fun i hi => absurd hi (Nat.not_lt_zero _))
  iexact H

/-! ## Rounding the first strips -/

theorem strip_of_chunk (c : Fin 8) (f g : (cc0_stg4_0 : Ref sig .tc).ty.Contents (Elt F)) (h : (outM.access (chunkR c)).read (Elt F) f = (outM.access (chunkR c)).read (Elt F) g)
    (j : S128x2048.Idx) : f ((stripR c q).emb j) = g ((stripR c q).emb j) := by
  have hm : (stripR c q).emb j ∈ (chunkR c).set := by
    have hj0 := ValueIdx.idx2_lt0 (n0 := 128) (n1 := 2048) j
    have hj1 := ValueIdx.idx2_lt1 (n0 := 128) (n1 := 2048) j
    have hq := q.isLt
    refine Rect.mem_set_unit.mpr fun a => ?_
    rw [Rect.emb_apply]
    match a with
    | ⟨0, _⟩ => exact ⟨show 512 * c.val ≤ 512 * c.val + 128 * q.val + 1 * (j 0).val by omega, show 512 * c.val + 128 * q.val + 1 * (j 0).val < 512 * c.val + 512 by omega⟩
    | ⟨1, _⟩ => exact ⟨Nat.zero_le _, show 0 + 1 * (j 1).val < 0 + 2048 by omega⟩
  rw [← Rect.map_emb_univ] at hm
  obtain ⟨i, -, hi⟩ := Finset.mem_map.mp hm
  rw [← hi]
  exact congrFun h i

theorem round_at {o : Fin 2 → ℕ} (e : o = stripOff (mulChunk d 0) q) (h) (hl) :
    iprop(outAt D d 1 ∗ anyPt (F := F) d (stageM q))
      ⊢ iprop(((outAt D d 1 ∗ owns (d : Thread nD τ) (stageM q) fullShare (acc D 0 d q)) -∗ WP d k Ψ)
        -∗ WP d (.op (.load outM (strip o h).toLoadRect hl) fun v => putStage q (stagePay v) k) Ψ) := by
  subst e
  unfold outAt
  iintro ⟨⟨%f, %hf, H⟩, Hs⟩ Hk
  unfold pt
  iapply (wp_load 𝒱₀ (d : Thread nD τ) none Set.univ (m := outM) (View.setOn_subset_set _ _)) $$ H; iintro H
  have hv : outM.view.readAt (Elt F) (strip (stripOff (mulChunk d 0) q) h).toLoadRect f = prodS D d (mulChunk d 0) q :=
    funext fun j => strip_of_chunk q (mulChunk d 0) f (prodC D d) ((hf 0 Nat.one_pos).trans (prodC_read D d _).symm) j
  rw [hv]
  iapply (put_stage d q k Ψ (stagePay (prodS D d (mulChunk d 0) q))) $$ Hs
  iintro Hs
  iapply Hk
  isplitl [H]
  · iexists f
    isplitr; · ipureintro; exact hf
    iexact H
  iexact Hs
/-- A stream's first strip rounded. -/
theorem round_step :
    iprop(outAt D d 1 ∗ anyPt (F := F) d (stageM q))
      ⊢ iprop(((outAt D d 1 ∗ owns (d : Thread nD τ) (stageM q) fullShare (acc D 0 d q)) -∗ WP d k Ψ) -∗ WP d (roundStage d q k) Ψ) :=
  round_at D d q k Ψ (offStage_eq d q) _ _

/-- The scales read. -/
theorem scale_step (kf : F .f32 → P F) :
    iprop(pt (F := F) d sxM fullShare (D.sx d) ∗ pt (F := F) d swM fullShare (D.sw d))
      ⊢ iprop(((pt (F := F) d sxM fullShare (D.sx d) ∗ pt (F := F) d swM fullShare (D.sw d)) -∗ WP d (kf (scale D d)) Ψ) -∗ WP d (scaleStage kf) Ψ) := by
  unfold pt scaleStage
  iintro ⟨Ha, Hb⟩ Hk
  iapply (wp_load 𝒱₀ (d : Thread nD τ) none Set.univ (m := sxM) (View.setOn_subset_set _ _)) $$ Ha; iintro Ha
  iapply (wp_load 𝒱₀ (d : Thread nD τ) none Set.univ (m := swM) (View.setOn_subset_set _ _)) $$ Hb; iintro Hb
  iapply Hk
  isplitl [Ha]; · iexact Ha
  iexact Hb

/-! ## Meeting -/

theorem pay_entry (c : Dev nD) (j : ℕ) : payOf D c .bar 0 j = if j = 0 then iprop(entry (F := F) c 0 ∗ entry (F := F) c 1) else iprop(entry (F := F) c 2 ∗ entry (F := F) c 3) := rfl

/-- One neighbour told that this device is in: what it will send into is handed over. -/
theorem bar_signal (b : Bool) (n : Dev nD) (hn : n = payTo d (.inl b)) :
    iprop(ctx D K ∗ ow d (pos (.inl b)) ∗ tok d (.inl b) ∗ payOf D (payTo d (.inl b)) .bar 0 (payDuty (.inl b)))
      ⊢ iprop((ow d (pos (.inl b) + 1) -∗ WP d k Ψ) -∗ WP d (.op (.semSignal (n, .tc) barS (1#32 : BitVec 32).toInt) fun _ => k) Ψ) := by
  subst hn
  unfold ow tok
  iintro ⟨#Hc, ⟨%W, HO⟩, Ht, Hp⟩ Hk
  iapply (Rounds.wp_signal 𝒱₀ ER (Rd D) (d : Thread nD τ) none (dst := (payTo d (.inl b) : Thread nD τ)) (κ := K.cell (payTo d (.inl b), num (.reg barS))) (r := 0)
      (d := payDuty (.inl b)) (by rw [dut_at D _ use_bar]; cases b <;> decide) (amt_at D _ use_bar 0 _) (pos (.inl b)) (O d (pos (.inl b) + 1)) (O_pay d (.inl b)))
    $$ [HO Ht Hp]
  · isplitr; · iapply (ctx_inv D K _ on_bar); iexact Hc
    isplitl [HO]; · iexact HO
    isplitl [Ht]; · iexact Ht
    isplitl [Hp]
    · have e : payOf D (payTo d (.inl b)) .bar 0 (payDuty (.inl b)) ⊢ (Rd D).payload (barCell (payTo d (.inl b))) 0 (payDuty (.inl b)) :=
        Entails.of_eq (pay_at D _ use_bar 0 _).symm
      iapply e; iexact Hp
    iapply (ctx_reached D K _ on_bar); iexact Hc
  iintro HO
  iapply Hk
  iexists W; iexact HO

/-- Both neighbours met. -/
theorem bar_wait (n : ℕ) (hn : 2 < n) :
    iprop(ctx D K ∗ ow d n ∗ crd d (.inl false) ∗ crd d (.inl true) ∗ atPos ER (barCell d) 0 ∅ 0)
      ⊢ iprop(((ow d n ∗ atPos ER (barCell d) 1 ∅ 0 ∗ payOf D d .bar 0 0 ∗ payOf D d .bar 0 1) -∗ WP d k Ψ)
        -∗ WP d (.op (.semWait barS (2#32 : BitVec 32).toInt) fun _ => k) Ψ) := by
  unfold ow crd
  iintro ⟨#Hc, ⟨%W, HO⟩, Hc1, Hc2, Hat⟩ Hk
  iapply (Rounds.wp_wait_rest 𝒱₀ ER (Rd D) (d : Thread nD τ) none (κ := K.cell (d, num (.reg barS))) (wpE_semWait_eq 𝒱₀ (d : Thread nD τ) none Set.univ) (Set.mem_univ _)
      (cr := Finsupp.single (pos (.inl false)) 1 + Finsupp.single (pos (.inl true)) 1) (O := O d n) (W := W)
      {(.reg barS, pos (.inl false)), (.reg barS, pos (.inl true))} (R := 0) (m := 0) (T := ∅)
      (by rw [expect_at D d use_bar]; rfl) (by rw [Util.total_add, Util.total_single, Util.total_single]; decide) (two_support _ _ _)) $$ [HO Hc1 Hc2 Hat]
  · isplitr; · iapply (ctx_inv D K d on_bar); iexact Hc
    isplitl [Hc1 Hc2]
    · iapply (two_cred (F := F) (barCell d) (pos (.inl false)) (pos (.inl true)))
      isplitl [Hc1]; · iexact Hc1
      iexact Hc2
    isplitl [HO]; · iexact HO
    isplitr
    · iapply (mayOwe d _ 2 n (fun x hx => by
        rcases Finset.mem_insert.mp hx with rfl | hx
        · exact Nat.le_succ 1
        · rw [Finset.mem_singleton.mp hx]; exact le_refl 2) hn (by decide))
      iapply (ctx_lev D K); iexact Hc
    iexact Hat
  iintro ⟨HO, Hat, -, Hp⟩
  have e : bigSep ((Rd D).duties (barCell d) 0 \ ∅) (fun j => (Rd D).payload (barCell d) 0 j) ⊢ iprop(payOf D d .bar 0 0 ∗ payOf D d .bar 0 1) := by
    have hd : (Rd D).duties (barCell d) 0 = {0, 1} := (dut_at D d use_bar 0).trans (by decide)
    rw [Finset.sdiff_empty, hd, bigSep_insert (by decide), bigSep_singleton, pay_at D d use_bar, pay_at D d use_bar]
    exact BI.Entails.refl _
  ihave Hp := e $$ Hp
  icases Hp with ⟨H0, H1⟩
  iapply Hk
  isplitl [HO]; · iexists _; iexact HO
  isplitl [Hat]; · iexact Hat
  isplitl [H0]; · iexact H0
  iexact H1

/-- The meeting with both neighbours. -/
theorem entry_step :
    iprop(ctx D K ∗ ow d 1 ∗ tok d (.inl false) ∗ tok d (.inl true) ∗ entry (F := F) (left d) 0 ∗ entry (F := F) (left d) 1 ∗ entry (F := F) (right d) 2 ∗ entry (F := F) (right d) 3
        ∗ crd d (.inl false) ∗ crd d (.inl true) ∗ atPos ER (barCell d) 0 ∅ 0)
      ⊢ iprop(((ow d 3 ∗ atPos ER (barCell d) 1 ∅ 0 ∗ entry (F := F) d 0 ∗ entry (F := F) d 1 ∗ entry (F := F) d 2 ∗ entry (F := F) d 3) -∗ WP d k Ψ)
        -∗ WP d (entryStage d k) Ψ) := by
  unfold entryStage
  iintro ⟨#Hc, HO, Ht1, Ht2, He0, He1, He2, He3, Hc1, Hc2, Hat⟩ Hk
  iapply (bar_signal D K d _ Ψ false _ (dev1_eq d)) $$ [HO Ht1 He0 He1]
  · isplitr; · iexact Hc
    isplitl [HO]; · iexact HO
    isplitl [Ht1]; · iexact Ht1
    have e : iprop(entry (F := F) (left d) 0 ∗ entry (F := F) (left d) 1) ⊢ payOf D (payTo d (.inl false)) .bar 0 (payDuty (.inl false)) := BI.Entails.refl _
    iapply e
    isplitl [He0]; · iexact He0
    iexact He1
  iintro HO
  iapply (bar_signal D K d _ Ψ true _ (dev2_eq d)) $$ [HO Ht2 He2 He3]
  · isplitr; · iexact Hc
    isplitl [HO]; · iexact HO
    isplitl [Ht2]; · iexact Ht2
    have e : iprop(entry (F := F) (right d) 2 ∗ entry (F := F) (right d) 3) ⊢ payOf D (payTo d (.inl true)) .bar 0 (payDuty (.inl true)) := BI.Entails.refl _
    iapply e
    isplitl [He2]; · iexact He2
    iexact He3
  iintro HO
  iapply (bar_wait D K d _ Ψ 3 (by decide)) $$ [HO Hc1 Hc2 Hat]
  · isplitr; · iexact Hc
    isplitl [HO]; · iexact HO
    isplitl [Hc1]; · iexact Hc1
    isplitl [Hc2]; · iexact Hc2
    iexact Hat
  iintro ⟨HO, Hat, H0, H1⟩
  have e0 : payOf D d .bar 0 0 ⊢ iprop(entry (F := F) d 0 ∗ entry (F := F) d 1) := BI.Entails.refl _
  have e1 : payOf D d .bar 0 1 ⊢ iprop(entry (F := F) d 2 ∗ entry (F := F) d 3) := BI.Entails.refl _
  ihave H0 := e0 $$ H0
  ihave H1 := e1 $$ H1
  icases H0 with ⟨H0, H0'⟩
  icases H1 with ⟨H1, H1'⟩
  iapply Hk
  isplitl [HO]; · iexact HO
  isplitl [Hat]; · iexact Hat
  isplitl [H0]; · iexact H0
  isplitl [H0']; · iexact H0'
  isplitl [H1]; · iexact H1
  iexact H1'

end Cert.KernelIdeal.Mesh

end
-- ==== Proof.Mesh.Hops.lean ====
/- One hop of one stream: reduction, then gathering. -/
module

public import proofs.«01_k».proof.Proof.Mesh.Compute
public import Idealize.SL.BI.BigOpNat

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (D : Data F) (K : Names)
variable (d : Dev nD) (q : Fin 4) (k : P F) (Ψ : PUnit.{1} → sProp (MT nD τ sig ℕ (Elt F) ℕ UU ℕ))

/-! ## Strips, closed up -/

/-- A strip of the gathered rows, whatever it holds. -/
def gA (d : Dev nD) (c : Fin 8) (q : Fin 4) : sProp 𝕄 := anyPt (F := F) d (gatS c q)
/-- A strip of the result's buffer still holding the device's product. -/
def oP (d : Dev nD) (c : Fin 8) (q : Fin 4) : sProp 𝕄 := pt (F := F) d (outS c q) fullShare (prodC D d)
/-- A strip of the result. -/
def oO (d : Dev nD) (c : Fin 8) (q : Fin 4) : sProp 𝕄 := pt (F := F) d (outS c q) fullShare (outC D d)

theorem gP_halves (c : Fin 8) : gP D d c q fullShare = iprop(gP D d c q fullShare.left ∗ gP D d c q fullShare.right) :=
  BI.Entails.antisymm (pointsTo_share (PosShare.mem_left_op_right fullShare)).1 (pointsTo_share (PosShare.mem_left_op_right fullShare)).2

theorem put_gather' :
    gA (F := F) d (agChunk d q 0) q ⊢ iprop((gP D d (agChunk d q 0) q fullShare -∗ WP d k Ψ) -∗ WP d (putGather d q (acc D 7 d q) k) Ψ) :=
  put_gather D d q k Ψ

theorem epi_step' (c : Fin 8) {o : Fin 2 → ℕ} (e : o = stripOff c q) (h) (sh : PosShare TreeShare) :
    iprop(gP D d c q sh ∗ oP D d c q)
      ⊢ iprop(((gP D d c q sh ∗ oO D d c q) -∗ WP d k Ψ) -∗ WP d (epiStage o h (scale D d) k) Ψ) :=
  epi_step D d q k Ψ c e h sh (prodC D d)

theorem ag_send' (t : Fin 7) :
    iprop(ctx D K ∗ ow d (pos (Pay.ag q t)) ∗ gP D d (agChunk d q t.val) q fullShare.left ∗ gA (F := F) (dest d q) (agChunk d q t.val) q
        ∗ tok d (Pay.ag q t) ∗ dutyTok ER (agSCell d q) t.val 0 ∗ reached ER (agSCell d q) t.val)
      ⊢ iprop(((ow d (pos (Pay.ag q t) + 1) ∗ cred (tallyAt (agSCell d q) 0 NB)) -∗ WP d k Ψ) -∗ WP d (agSend d q t k) Ψ) :=
  ag_send D K d q k Ψ t

theorem rs_recv_whole (s : Fin 7) (kv : FVec F S128x2048 .bf16 → P F) (n : ℕ) (hn : pos (Pay.rs q s) < n) :
    iprop(ctx D K ∗ ow d n ∗ crd d (Pay.rs q s) ∗ hopAt d q s.val ∗ oW D d ∗ cred (tallyAt (rsSCell d q) 0 NB) ∗ atPos ER (rsSCell d q) s.val ∅ 0)
      ⊢ iprop(((ow d n ∗ hopAt d q (s.val + 2) ∗ fact (F := F) d q (s.val + 2) ∗ oW D d
          ∗ anyPt (F := F) d (stageM q) ∗ atPos ER (rsSCell d q) (s.val + 1) ∅ 0 ∗ reached ER (rsSCell d q) (s.val + 1)) -∗ WP d (kv (acc D (s.val + 1) d q)) Ψ)
          -∗ WP d (rsRecv d q s kv) Ψ) :=
  rs_recv D K d q Ψ s kv n hn (S := outM.view.set) (by rw [View.set_whole]; exact Finset.subset_univ _)

theorem rsChunk_last : ∀ (d : Dev nD) (q : Fin 4), rsChunk d q 6 = agChunk d q 0 := by decide +kernel

theorem rs_recv_last (kv : FVec F S128x2048 .bf16 → P F) (n : ℕ) (hn : pos (Pay.rs q 6) < n) :
    iprop(ctx D K ∗ ow d n ∗ crd d (Pay.rs q 6) ∗ hopAt d q 6 ∗ oP D d (agChunk d q 0) q ∗ cred (tallyAt (rsSCell d q) 0 NB) ∗ atPos ER (rsSCell d q) 6 ∅ 0)
      ⊢ iprop(((ow d n ∗ hopAt d q 8 ∗ fact (F := F) d q 8 ∗ oP D d (agChunk d q 0) q
          ∗ anyPt (F := F) d (stageM q) ∗ atPos ER (rsSCell d q) 7 ∅ 0 ∗ reached ER (rsSCell d q) 7) -∗ WP d (kv (acc D 7 d q)) Ψ)
          -∗ WP d (rsRecv d q 6 kv) Ψ) :=
  rs_recv D K d q Ψ 6 kv n hn (S := (outS (agChunk d q 0) q).view.set) (by rw [show (6 : Fin 7).val = 6 from rfl, rsChunk_last, View.set_slice_whole])

/-! ## What a stream holds before a reduction hop -/

/-- A hop, by its number. -/
def f7 (t : ℕ) : Fin 7 := ⟨t % 7, Nat.mod_lt _ (by decide)⟩
theorem f7_val (s : Fin 7) : f7 s.val = s := Fin.ext (Nat.mod_eq_of_lt s.isLt)

/-- To receive at hop `t` and to tell so. -/
def rsIn (t : ℕ) : sProp 𝕄 := iprop(crd d (Pay.rs q (f7 t)) ∗ tok d (Pay.cr q (f7 t)))
/-- To send at hop `t`. -/
def rsOut (t : ℕ) : sProp 𝕄 := iprop(tok d (Pay.rs q (f7 t)) ∗ writeTok EK (dest d q, q, parN t) (t / 2 + 1) ∗ dutyTok ER (rsSCell d q) t 0)
/-- The credits awaited and to await before hop `s`. -/
def crSt (s : ℕ) : sProp 𝕄 := iprop(crAt d q (s - 1) ∗ bigSep (Finset.Ico (s - 1) 7) fun t => crd d (Pay.cr q (f7 t)))
/-- Before reduction hop `s`. -/
def rsA (s : ℕ) : sProp 𝕄 :=
  iprop(hopAt d q s ∗ hopAt d q (s + 1) ∗ atPos ER (rsSCell d q) s ∅ 0 ∗ cred (tallyAt (rsSCell d q) 0 NB)
    ∗ bigSep (Finset.Ico s 7) (rsIn d q) ∗ bigSep (Finset.Ico (s + 1) 7) (rsOut d q) ∗ crSt d q s ∗ facts (F := F) d q s ∗ fact (F := F) (dest d q) q 1)

theorem rsIn_take (s : Fin 7) : bigSep (Finset.Ico s.val 7) (rsIn d q)
    = (iprop((crd d (Pay.rs q s) ∗ tok d (Pay.cr q s)) ∗ bigSep (Finset.Ico (s.val + 1) 7) (rsIn d q)) : sProp 𝕄) := by
  rw [bigSep_Ico_succ_bot s.isLt]
  unfold rsIn
  rw [f7_val]
theorem rsOut_take (s : Fin 7) : bigSep (Finset.Ico s.val 7) (rsOut d q)
    = (iprop((tok d (Pay.rs q s) ∗ writeTok EK (dest d q, q, parN s.val) (s.val / 2 + 1) ∗ dutyTok ER (rsSCell d q) s.val 0)
      ∗ bigSep (Finset.Ico (s.val + 1) 7) (rsOut d q)) : sProp 𝕄) := by
  rw [bigSep_Ico_succ_bot s.isLt]
  unfold rsOut
  rw [f7_val]
theorem facts_succ (c : Dev nD) (n : ℕ) : iprop(fact (F := F) c q (n + 2) ∗ facts (F := F) c q n) ⊢ facts (F := F) c q (n + 1) :=
  by unfold facts; rw [bigSep_range_succ]

theorem rsHop_zero (g : F .f32) (s : Fin 7) (h : s.val = 0) :
    rsHop d g s q k = rsRecv d q s fun v => putStage q v (credStage d q (rsSend d q (par' s) k)) := by
  unfold rsHop; simp only [h, if_neg (show ¬(0 = 6) by decide), if_true]
theorem rsHop_mid (g : F .f32) (s : Fin 7) (h : s.val ≠ 0) (h' : s.val ≠ 6) :
    rsHop d g s q k = rsRecv d q s fun v => putStage q v (credStage d q (credWait q 1#32 (rsSend d q (par' s) k))) := by
  unfold rsHop; simp only [if_neg h, if_neg h']
theorem rsHop_last (g : F .f32) :
    rsHop d g 6 q k = rsRecv d q 6 fun v => putGather d q v (credStage d q (agSend d q 0 (epiStage (offStar d q) (offStar_inb d q) g k))) := by
  unfold rsHop; rfl

theorem pos_rs_lt : ∀ (q : Fin 4) (s : Fin 7), pos (Pay.rs q s) < 7 + 2 * (4 * s.val + ord q) := by decide +kernel
theorem pos_cr_eq : ∀ (q : Fin 4) (s : Fin 7), pos (Pay.cr q s) = 7 + 2 * (4 * s.val + ord q) := by decide +kernel
theorem pos_rs_eq : ∀ (q : Fin 4) (s s' : Fin 7), s'.val = s.val + 1 → pos (Pay.rs q s') = 7 + 2 * (4 * s.val + ord q) + 1 := by decide +kernel
theorem pos_ag_zero : ∀ q : Fin 4, pos (Pay.ag q 0) = 7 + 2 * (4 * 6 + ord q) + 1 := by decide +kernel
theorem pos_ag_lt : ∀ (q : Fin 4) (s : Fin 7), pos (Pay.ag q s) < 63 + 4 * s.val + ord q := by decide +kernel
theorem pos_ag_eq : ∀ (q : Fin 4) (s s' : Fin 7), s'.val = s.val + 1 → pos (Pay.ag q s') = 63 + 4 * s.val + ord q := by decide +kernel

/-- The wait before a send from the second on. -/
theorem cr_take (s : Fin 7) (h : s.val ≠ 0) (n : ℕ) (hn : 7 + 2 * (4 * s.val + ord q) ≤ n) :
    iprop(ctx D K ∗ ow d n ∗ crSt d q s.val)
      ⊢ iprop(((ow d n ∗ crSt d q (s.val + 1) ∗ fact (F := F) (dest d q) q (s.val + 1)) -∗ WP d k Ψ) -∗ WP d (credWait q 1#32 k) Ψ) := by
  obtain ⟨w, hw⟩ : ∃ w : Fin 7, s.val = w.val + 1 := ⟨⟨s.val - 1, by omega⟩, by show s.val = s.val - 1 + 1; omega⟩
  have hp : pos (Pay.cr q w) < n := by rw [pos_cr_eq]; omega
  rw [hw]
  have e : crSt d q (w.val + 1) ⊢ (iprop(crAt d q w.val ∗ crd d (Pay.cr q w) ∗ bigSep (Finset.Ico (w.val + 1) 7) fun t => crd d (Pay.cr q (f7 t))) : sProp 𝕄) := by
    unfold crSt
    rw [Nat.add_sub_cancel, bigSep_Ico_succ_bot w.isLt, f7_val]
  have e' : iprop(crAt d q (w.val + 1) ∗ bigSep (Finset.Ico (w.val + 1) 7) fun t => crd d (Pay.cr q (f7 t))) ⊢ (crSt d q (w.val + 1 + 1) : sProp 𝕄) := by
    unfold crSt
    exact BI.Entails.refl _
  iintro ⟨#Hc, HO, Hst⟩ Hk
  ihave Hst := e $$ Hst
  icases Hst with ⟨Hcr, Hc1, Hcs⟩
  iapply (cr_wait D K d q k Ψ w n hp) $$ [HO Hc1 Hcr]
  · isplitr; · iexact Hc
    isplitl [HO]; · iexact HO
    isplitl [Hc1]; · iexact Hc1
    iexact Hcr
  iintro ⟨HO, Hcr, Hf⟩
  iapply Hk
  isplitl [HO]; · iexact HO
  isplitl [Hcr Hcs]
  · iapply e'
    isplitl [Hcr]; · iexact Hcr
    iexact Hcs
  iexact Hf

/-- What the send at the end of a hop takes and leaves. -/
theorem rs_next (s : Fin 7) (h6 : s.val < 6) (n : ℕ) (hn : n = 7 + 2 * (4 * s.val + ord q) + 1) :
    iprop(ctx D K ∗ ow d n ∗ owns (d : Thread nD τ) (stageM q) fullShare (acc D (s.val + 1) d q) ∗ bigSep (Finset.Ico (s.val + 1) 7) (rsOut d q)
        ∗ fact (F := F) (dest d q) q (s.val + 1) ∗ reached ER (rsSCell d q) (s.val + 1))
      ⊢ iprop(((ow d (n + 1) ∗ cred (tallyAt (rsSCell d q) 0 NB) ∗ bigSep (Finset.Ico (s.val + 1 + 1) 7) (rsOut d q)) -∗ WP d k Ψ) -∗ WP d (rsSend d q (par' s) k) Ψ) := by
  obtain ⟨t, ht⟩ : ∃ t : Fin 7, s.val + 1 = t.val := ⟨⟨s.val + 1, by omega⟩, rfl⟩
  obtain rfl : n = pos (Pay.rs q t) := hn.trans (pos_rs_eq q s t ht.symm).symm
  have hp : par' s = par t := Fin.ext (show (s.val + 1) % 2 = t.val % 2 by rw [ht])
  rw [ht, hp, rsOut_take]
  iintro ⟨#Hc, HO, Hs, ⟨⟨Ht, Hw, Hd⟩, Hr⟩, Hf, Hre⟩ Hk
  iapply (rs_send D K d q k Ψ t) $$ [HO Hs Ht Hw Hd Hf Hre]
  · isplitr; · iexact Hc
    isplitl [HO]; · iexact HO
    isplitl [Hs]; · iexact Hs
    isplitl [Ht]; · iexact Ht
    isplitl [Hw]; · iexact Hw
    isplitl [Hf]; · iexact Hf
    isplitl [Hd]; · iexact Hd
    iexact Hre
  iintro ⟨HO, Hcr⟩
  iapply Hk
  isplitl [HO]; · iexact HO
  isplitl [Hcr]; · iexact Hcr
  iexact Hr

/-- A reduction hop before the last. -/
theorem rs_hop (g : F .f32) (s : Fin 7) (h6 : s.val < 6) (n : ℕ) (hn : n = 7 + 2 * (4 * s.val + ord q)) :
    iprop(ctx D K ∗ oW D d ∗ ow d n ∗ rsA d q s.val)
      ⊢ iprop(((oW D d ∗ ow d (n + 2) ∗ rsA d q (s.val + 1)) -∗ WP d k Ψ) -∗ WP d (rsHop d g s q k) Ψ) := by
  have hcr : n = pos (Pay.cr q s) := hn.trans (pos_cr_eq q s).symm
  unfold rsA
  rw [rsIn_take]
  iintro ⟨#Hc, HW, HO, Hh, Hh', Hats, Hcs, ⟨⟨Hci, Hti⟩, Hin⟩, Hout, Hst, #Hfs, #Hf1⟩ Hk
  by_cases h0 : s.val = 0
  · rw [rsHop_zero _ _ _ _ _ h0]
    iapply (rs_recv_whole D K d q Ψ s _ n (hn ▸ pos_rs_lt q s)) $$ [HO Hci Hh HW Hcs Hats]
    · isplitr; · iexact Hc
      isplitl [HO]; · iexact HO
      isplitl [Hci]; · iexact Hci
      isplitl [Hh]; · iexact Hh
      isplitl [HW]; · iexact HW
      isplitl [Hcs]; · iexact Hcs
      iexact Hats
    iintro ⟨HO, Hh, #Hf, HW, Hs, Hats, Hre⟩
    iapply (put_stage d q _ Ψ (acc D (s.val + 1) d q)) $$ Hs; iintro Hs
    ihave #Hfs' := (facts_succ (F := F) q d s.val) $$ [Hf Hfs]
    · isplitr; · iexact Hf
      iexact Hfs
    iapply (cred_step D K d q _ Ψ s) $$ [HO Hti]
    · isplitr; · iexact Hc
      isplitl [HO]; · rw [← hcr]; iexact HO
      isplitl [Hti]; · iexact Hti
      iexact Hfs'
    iintro HO
    rw [← hcr]
    iapply (rs_next D K d q k Ψ s h6 (n + 1) (by rw [hn])) $$ [HO Hs Hout Hre]
    · isplitr; · iexact Hc
      isplitl [HO]; · iexact HO
      isplitl [Hs]; · iexact Hs
      isplitl [Hout]; · iexact Hout
      isplitr; · rw [h0]; iexact Hf1
      iexact Hre
    iintro ⟨HO, Hcs, Hout⟩
    iapply Hk
    isplitl [HW]; · iexact HW
    isplitl [HO]; · iexact HO
    isplitl [Hh']; · iexact Hh'
    isplitl [Hh]; · iexact Hh
    isplitl [Hats]; · iexact Hats
    isplitl [Hcs]; · iexact Hcs
    isplitl [Hin]; · iexact Hin
    isplitl [Hout]; · iexact Hout
    isplitl [Hst]
    · have e : crSt d q s.val ⊢ (crSt d q (s.val + 1) : sProp 𝕄) := by rw [h0]; exact BI.Entails.refl _
      iapply e; iexact Hst
    isplitr; · iexact Hfs'
    iexact Hf1
  · rw [rsHop_mid _ _ _ _ _ h0 (Nat.ne_of_lt h6)]
    iapply (rs_recv_whole D K d q Ψ s _ n (hn ▸ pos_rs_lt q s)) $$ [HO Hci Hh HW Hcs Hats]
    · isplitr; · iexact Hc
      isplitl [HO]; · iexact HO
      isplitl [Hci]; · iexact Hci
      isplitl [Hh]; · iexact Hh
      isplitl [HW]; · iexact HW
      isplitl [Hcs]; · iexact Hcs
      iexact Hats
    iintro ⟨HO, Hh, #Hf, HW, Hs, Hats, Hre⟩
    iapply (put_stage d q _ Ψ (acc D (s.val + 1) d q)) $$ Hs; iintro Hs
    ihave #Hfs' := (facts_succ (F := F) q d s.val) $$ [Hf Hfs]
    · isplitr; · iexact Hf
      iexact Hfs
    iapply (cred_step D K d q _ Ψ s) $$ [HO Hti]
    · isplitr; · iexact Hc
      isplitl [HO]; · rw [← hcr]; iexact HO
      isplitl [Hti]; · iexact Hti
      iexact Hfs'
    iintro HO
    rw [← hcr]
    iapply (cr_take D K d q _ Ψ s h0 (n + 1) (by omega)) $$ [HO Hst]
    · isplitr; · iexact Hc
      isplitl [HO]; · iexact HO
      iexact Hst
    iintro ⟨HO, Hst, Hfd⟩
    iapply (rs_next D K d q k Ψ s h6 (n + 1) (by rw [hn])) $$ [HO Hs Hout Hre Hfd]
    · isplitr; · iexact Hc
      isplitl [HO]; · iexact HO
      isplitl [Hs]; · iexact Hs
      isplitl [Hout]; · iexact Hout
      isplitl [Hfd]; · iexact Hfd
      iexact Hre
    iintro ⟨HO, Hcs, Hout⟩
    iapply Hk
    isplitl [HW]; · iexact HW
    isplitl [HO]; · iexact HO
    isplitl [Hh']; · iexact Hh'
    isplitl [Hh]; · iexact Hh
    isplitl [Hats]; · iexact Hats
    isplitl [Hcs]; · iexact Hcs
    isplitl [Hin]; · iexact Hin
    isplitl [Hout]; · iexact Hout
    isplitl [Hst]; · iexact Hst
    isplitr; · iexact Hfs'
    iexact Hf1

/-! ## What a stream holds before a gathering hop -/

/-- The stream's strips of the result's buffer, `t` of them done. -/
def outs (t : ℕ) : sProp 𝕄 :=
  iprop((bigSep (Finset.range t) fun i => oO D d (agChunk d q i) q) ∗ bigSep (Finset.Ico t 8) fun i => oP D d (agChunk d q i) q)
/-- To receive at gathering hop `t`. -/
def agIn (t : ℕ) : sProp 𝕄 := iprop(crd d (Pay.ag q (f7 t)) ∗ atPos ER (agRCell d q (f7 t)) 0 ∅ 0)
/-- To forward at gathering hop `t`. -/
def agOut (t : ℕ) : sProp 𝕄 := iprop(tok d (Pay.ag q (f7 t)) ∗ gA (F := F) (dest d q) (agChunk d q t) q ∗ dutyTok ER (agSCell d q) t 0)
/-- Before the last reduction hop: all that the gathering takes. -/
def agI : sProp 𝕄 :=
  iprop(bigSep (Finset.Ico 0 7) (agIn d q) ∗ bigSep (Finset.Ico 0 7) (agOut d q) ∗ atPos ER (agSCell d q) 0 ∅ 0 ∗ gA (F := F) d (agChunk d q 0) q ∗ outs D d q 0)
/-- Before gathering hop `s`. -/
def agA (s : ℕ) : sProp 𝕄 :=
  iprop(bigSep (Finset.Ico s 7) (agIn d q) ∗ (bigSep (Finset.range s) fun t => atPos ER (agRCell d q (f7 t)) 1 ∅ 0)
    ∗ bigSep (Finset.Ico (s + 1) 7) (agOut d q) ∗ atPos ER (agSCell d q) s ∅ 0 ∗ cred (tallyAt (agSCell d q) 0 NB)
    ∗ gP D d (agChunk d q s) q fullShare.right ∗ (bigSep (Finset.range s) fun t => gP D d (agChunk d q t) q fullShare) ∗ outs D d q (s + 1))
/-- After the gathering. -/
def agEnd : sProp 𝕄 :=
  iprop((bigSep (Finset.range 7) fun t => atPos ER (agRCell d q (f7 t)) 1 ∅ 0) ∗ atPos ER (agSCell d q) 7 ∅ 0
    ∗ (bigSep (Finset.range 8) fun t => gP D d (agChunk d q t) q fullShare) ∗ outs D d q 8)
/-- After the reduction. -/
def rsEnd : sProp 𝕄 :=
  iprop(hopAt d q 7 ∗ hopAt d q 8 ∗ atPos ER (rsSCell d q) 7 ∅ 0 ∗ anyPt (F := F) d (stageM q) ∗ (crAt d q 5 ∗ crd d (Pay.cr q 5) ∗ crd d (Pay.cr q 6)) ∗ facts (F := F) d q 7)

theorem agIn_take (s : Fin 7) : bigSep (Finset.Ico s.val 7) (agIn d q)
    = (iprop((crd d (Pay.ag q s) ∗ atPos ER (agRCell d q s) 0 ∅ 0) ∗ bigSep (Finset.Ico (s.val + 1) 7) (agIn d q)) : sProp 𝕄) := by
  rw [bigSep_Ico_succ_bot s.isLt]
  unfold agIn
  rw [f7_val]
theorem agOut_take (s : Fin 7) : bigSep (Finset.Ico s.val 7) (agOut d q)
    = (iprop((tok d (Pay.ag q s) ∗ gA (F := F) (dest d q) (agChunk d q s.val) q ∗ dutyTok ER (agSCell d q) s.val 0)
      ∗ bigSep (Finset.Ico (s.val + 1) 7) (agOut d q)) : sProp 𝕄) := by
  rw [bigSep_Ico_succ_bot s.isLt]
  unfold agOut
  rw [f7_val]
theorem outs_take (t : ℕ) (h : t < 8) : outs D d q t ⊢ iprop(oP D d (agChunk d q t) q ∗ (oO D d (agChunk d q t) q -∗ outs D d q (t + 1))) := by
  unfold outs
  rw [bigSep_Ico_succ_bot h, bigSep_range_succ]
  iintro ⟨Ha, Hp, Hb⟩
  isplitl [Hp]; · iexact Hp
  iintro Ho
  isplitl [Ho Ha]
  · isplitl [Ho]; · iexact Ho
    iexact Ha
  iexact Hb
theorem agAt_push (s : Fin 7) : iprop(atPos ER (agRCell d q s) 1 ∅ 0 ∗ bigSep (Finset.range s.val) fun t => atPos ER (agRCell d q (f7 t)) 1 ∅ 0)
    ⊢ (bigSep (Finset.range (s.val + 1)) fun t => atPos ER (agRCell d q (f7 t)) 1 ∅ 0 : sProp 𝕄) :=
  Entails.of_eq (by rw [bigSep_range_succ, f7_val])
theorem gP_push (s : ℕ) : iprop(gP D d (agChunk d q s) q fullShare ∗ bigSep (Finset.range s) fun t => gP D d (agChunk d q t) q fullShare)
    ⊢ bigSep (Finset.range (s + 1)) fun t => gP D d (agChunk d q t) q fullShare :=
  Entails.of_eq (by rw [bigSep_range_succ])

/-- The last reduction hop: the finished strip is put, forwarded and scaled. -/
theorem rs_last (n : ℕ) (hn : n = 7 + 2 * (4 * 6 + ord q)) :
    iprop(ctx D K ∗ ow d n ∗ rsA d q 6 ∗ agI D d q)
      ⊢ iprop(((ow d (n + 2) ∗ rsEnd d q ∗ agA D d q 0) -∗ WP d k Ψ) -∗ WP d (rsHop d (scale D d) 6 q k) Ψ) := by
  have hcr : n = pos (Pay.cr q 6) := hn.trans (pos_cr_eq q 6).symm
  have hag : n + 1 = pos (Pay.ag q 0) := (by rw [hn]; exact (pos_ag_zero q).symm)
  have e5 : crSt d q 6 ⊢ (iprop(crAt d q 5 ∗ crd d (Pay.cr q 5) ∗ crd d (Pay.cr q 6)) : sProp 𝕄) := by
    unfold crSt
    show iprop(crAt d q 5 ∗ bigSep (Finset.Ico 5 7) fun t => crd d (Pay.cr q (f7 t))) ⊢ _
    rw [bigSep_Ico_succ_bot (by decide), bigSep_Ico_one]
    exact BI.Entails.refl _
  rw [rsHop_last]
  unfold rsA agI
  rw [show (bigSep (Finset.Ico 6 7) (rsIn d q) : sProp 𝕄) = _ from rsIn_take d q 6, show (bigSep (Finset.Ico 0 7) (agOut d q) : sProp 𝕄) = _ from agOut_take d q 0]
  iintro ⟨#Hc, HO, ⟨Hh, Hh', Hats, Hcs, ⟨⟨Hci, Hti⟩, -⟩, -, Hst, #Hfs, -⟩, HaI, ⟨⟨Hta, Hga, Hda⟩, Hao⟩, Hata, Hg, Hou⟩ Hk
  ihave Hou := (outs_take D d q 0 (by decide)) $$ Hou
  icases Hou with ⟨Hop, Hou⟩
  iapply (rs_recv_last D K d q Ψ _ n (hn ▸ pos_rs_lt q 6)) $$ [HO Hci Hh Hop Hcs Hats]
  · isplitr; · iexact Hc
    isplitl [HO]; · iexact HO
    isplitl [Hci]; · iexact Hci
    isplitl [Hh]; · iexact Hh
    isplitl [Hop]; · iexact Hop
    isplitl [Hcs]; · iexact Hcs
    iexact Hats
  iintro ⟨HO, Hh, #Hf, Hop, Hs, Hats, -⟩
  iapply (put_gather' D d q _ Ψ) $$ Hg; iintro Hg
  ihave #Hfs' := (facts_succ (F := F) q d 6) $$ [Hf Hfs]
  · isplitr; · iexact Hf
    iexact Hfs
  iapply (cred_step D K d q _ Ψ 6) $$ [HO Hti]
  · isplitr; · iexact Hc
    isplitl [HO]; · rw [← hcr]; iexact HO
    isplitl [Hti]; · iexact Hti
    iexact Hfs'
  iintro HO
  rw [← hcr, hag]
  ihave Hg := (Entails.of_eq (gP_halves D d q (agChunk d q 0))) $$ Hg
  icases Hg with ⟨Hgl, Hgr⟩
  iapply (ag_send' D K d q _ Ψ 0) $$ [HO Hgl Hga Hta Hda]
  · isplitr; · iexact Hc
    isplitl [HO]; · iexact HO
    isplitl [Hgl]; · iexact Hgl
    isplitl [Hga]; · iexact Hga
    isplitl [Hta]; · iexact Hta
    isplitl [Hda]; · iexact Hda
    iapply (ctx_reached D K d (on_agS q)); iexact Hc
  iintro ⟨HO, Hca⟩
  rw [← hag]
  iapply (epi_step' D d q _ Ψ (agChunk d q 0) (offStar_eq d q) _ fullShare.right) $$ [Hgr Hop]
  · isplitl [Hgr]; · iexact Hgr
    iexact Hop
  iintro ⟨Hgr, Hop⟩
  iapply Hk
  isplitl [HO]; · iexact HO
  unfold rsEnd agA
  isplitl [Hh Hh' Hats Hs Hst]
  · isplitl [Hh']; · iexact Hh'
    isplitl [Hh]; · iexact Hh
    isplitl [Hats]; · iexact Hats
    isplitl [Hs]; · iexact Hs
    isplitl [Hst]; · iapply e5; iexact Hst
    iexact Hfs'
  isplitl [HaI]; · iexact HaI
  isplitr; · rw [Finset.range_zero, bigSep_empty]; iempintro
  isplitl [Hao]; · iexact Hao
  isplitl [Hata]; · iexact Hata
  isplitl [Hca]; · iexact Hca
  isplitl [Hgr]; · iexact Hgr
  isplitr; · rw [Finset.range_zero, bigSep_empty]; iempintro
  iapply Hou; iexact Hop

theorem agHop_lt (g : F .f32) (s : Fin 7) (h : s.val ≠ 6) :
    agHop d g s q k = agWait d q s (agSend d q (next s) (epiStage (offEpi d q s) (offEpi_inb d q s) g k)) := by
  unfold agHop; rw [if_neg h]
theorem agHop_last (g : F .f32) : agHop d g 6 q k = agWait d q 6 (epiStage (offEpi d q 6) (offEpi_inb d q 6) g k) := by
  unfold agHop; rfl

/-- A gathering hop before the last. -/
theorem ag_hop (s : Fin 7) (h6 : s.val < 6) (n : ℕ) (hn : n = 63 + 4 * s.val + ord q) :
    iprop(ctx D K ∗ ow d n ∗ agA D d q s.val)
      ⊢ iprop(((ow d (n + 1) ∗ agA D d q (s.val + 1)) -∗ WP d k Ψ) -∗ WP d (agHop d (scale D d) s q k) Ψ) := by
  have hs : (next s).val = s.val + 1 := Nat.mod_eq_of_lt (by omega)
  have hag : n = pos (Pay.ag q (next s)) := hn.trans (pos_ag_eq q s (next s) hs).symm
  rw [agHop_lt _ _ _ _ _ (Nat.ne_of_lt h6)]
  unfold agA
  rw [agIn_take, ← hs, agOut_take]
  iintro ⟨#Hc, HO, ⟨⟨Hci, Hat⟩, Hin⟩, Hrs, ⟨⟨Hta, Hga, Hda⟩, Hao⟩, Hata, Hca, Hgr, Hgs, Hou⟩ Hk
  iapply (ag_wait D K d q _ Ψ s n (hn ▸ pos_ag_lt q s)) $$ [HO Hci Hat Hca Hata]
  · isplitr; · iexact Hc
    isplitl [HO]; · iexact HO
    isplitl [Hci]; · iexact Hci
    isplitl [Hat]; · iexact Hat
    isplitl [Hca]; · iexact Hca
    iexact Hata
  rw [← hs]
  iintro ⟨HO, Hat, Hg, Hata, Hre, Hgl⟩
  ihave Hg := (Entails.of_eq (gP_halves D d q (agChunk d q (next s).val))) $$ Hg
  icases Hg with ⟨Hgl', Hgr'⟩
  rw [hag]
  iapply (ag_send' D K d q _ Ψ (next s)) $$ [HO Hgl' Hga Hta Hda Hre]
  · isplitr; · iexact Hc
    isplitl [HO]; · iexact HO
    isplitl [Hgl']; · iexact Hgl'
    isplitl [Hga]; · iexact Hga
    isplitl [Hta]; · iexact Hta
    isplitl [Hda]; · iexact Hda
    iexact Hre
  iintro ⟨HO, Hca⟩
  ihave Hou := (outs_take D d q (next s).val (by rw [hs]; omega)) $$ Hou
  icases Hou with ⟨Hop, Hou⟩
  iapply (epi_step' D d q _ Ψ (agChunk d q (next s).val) (by rw [hs]; exact offEpi_eq d q s) _ fullShare.right) $$ [Hgr' Hop]
  · isplitl [Hgr']; · iexact Hgr'
    iexact Hop
  iintro ⟨Hgr', Hop⟩
  iapply Hk
  isplitl [HO]; · iexact HO
  isplitl [Hin]; · rw [hs]; iexact Hin
  isplitl [Hat Hrs]
  · rw [hs]; iapply (agAt_push (F := F) d q s)
    isplitl [Hat]; · iexact Hat
    iexact Hrs
  isplitl [Hao]; · iexact Hao
  isplitl [Hata]; · iexact Hata
  isplitl [Hca]; · iexact Hca
  isplitl [Hgr']; · iexact Hgr'
  isplitl [Hgl Hgr Hgs]
  · rw [hs]; iapply (gP_push D d q s.val)
    isplitl [Hgl Hgr]
    · iapply (Entails.of_eq (gP_halves D d q (agChunk d q s.val)).symm)
      isplitl [Hgl]; · iexact Hgl
      iexact Hgr
    iexact Hgs
  iapply Hou; iexact Hop

/-- The last gathering hop. -/
theorem ag_last (n : ℕ) (hn : 87 ≤ n) :
    iprop(ctx D K ∗ ow d n ∗ agA D d q 6)
      ⊢ iprop(((ow d n ∗ agEnd D d q) -∗ WP d k Ψ) -∗ WP d (agHop d (scale D d) 6 q k) Ψ) := by
  rw [agHop_last]
  unfold agA
  rw [show (bigSep (Finset.Ico 6 7) (agIn d q) : sProp 𝕄) = _ from agIn_take d q 6]
  iintro ⟨#Hc, HO, ⟨⟨Hci, Hat⟩, -⟩, Hrs, -, Hata, Hca, Hgr, Hgs, Hou⟩ Hk
  iapply (ag_wait D K d q _ Ψ 6 n (lt_of_lt_of_le (pos_lt _) hn)) $$ [HO Hci Hat Hca Hata]
  · isplitr; · iexact Hc
    isplitl [HO]; · iexact HO
    isplitl [Hci]; · iexact Hci
    isplitl [Hat]; · iexact Hat
    isplitl [Hca]; · iexact Hca
    iexact Hata
  iintro ⟨HO, Hat, Hg, Hata, -, Hgl⟩
  ihave Hou := (outs_take D d q 7 (by decide)) $$ Hou
  icases Hou with ⟨Hop, Hou⟩
  iapply (epi_step' D d q _ Ψ (agChunk d q 7) (offEpi_eq d q 6) _ fullShare) $$ [Hg Hop]
  · isplitl [Hg]; · iexact Hg
    iexact Hop
  iintro ⟨Hg, Hop⟩
  iapply Hk
  isplitl [HO]; · iexact HO
  unfold agEnd
  isplitl [Hat Hrs]
  · iapply (agAt_push (F := F) d q 6)
    isplitl [Hat]; · iexact Hat
    iexact Hrs
  isplitl [Hata]; · iexact Hata
  isplitl [Hg Hgl Hgr Hgs]
  · iapply (gP_push D d q 7)
    isplitl [Hg]; · iexact Hg
    iapply (gP_push D d q 6)
    isplitl [Hgl Hgr]
    · iapply (Entails.of_eq (gP_halves D d q (agChunk d q 6)).symm)
      isplitl [Hgl]; · iexact Hgl
      iexact Hgr
    iexact Hgs
  iapply Hou; iexact Hop

end Cert.KernelIdeal.Mesh

end
-- ==== Proof.Mesh.Strips.lean ====
/- The buffers split into strips and slots, and joined again. -/
module

public import proofs.«01_k».proof.Proof.Mesh.Hops
public import Idealize.ShloMosaic.Lib.SparseCore.Launch

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (D : Data F) (K : Names)
variable (d : Dev nD) (q : Fin 4) (k : P F) (Ψ : PUnit.{1} → sProp (MT nD τ sig ℕ (Elt F) ℕ UU ℕ))

/-! ## Four streams, eight strips -/

/-- Something for each stream. -/
def all4 (A : Fin 4 → sProp (MT nD τ sig ℕ (Elt F) ℕ UU ℕ)) : sProp (MT nD τ sig ℕ (Elt F) ℕ UU ℕ) := iprop(A 0 ∗ A 1 ∗ A 2 ∗ A 3)
theorem all4_eq (A : Fin 4 → sProp (MT nD τ sig ℕ (Elt F) ℕ UU ℕ)) : all4 A = bigSep Finset.univ A := by
  rw [bigSep_univ_eq_bigSepL [0, 1, 2, 3] (by decide) (by decide)]
  rfl
theorem all4_mono {A B : Fin 4 → sProp (MT nD τ sig ℕ (Elt F) ℕ UU ℕ)} (h : ∀ q, A q ⊢ B q) : all4 A ⊢ all4 B := by
  rw [all4_eq, all4_eq]; exact bigSep_mono fun q _ => h q
theorem all4_sep (A B : Fin 4 → sProp (MT nD τ sig ℕ (Elt F) ℕ UU ℕ)) : all4 (fun q => iprop(A q ∗ B q)) = iprop(all4 A ∗ all4 B) := by
  rw [all4_eq, all4_eq, all4_eq, bigSep_sep']

theorem agChunk_inj : ∀ (d : Dev nD) (q : Fin 4) (s t : Fin 8), agChunk d q s.val = agChunk d q t.val → s = t := by decide +kernel
theorem agChunk_surj : ∀ (d : Dev nD) (q : Fin 4) (c : Fin 8), ∃ s : Fin 8, agChunk d q s.val = c := by decide +kernel
theorem agChunk_image (d : Dev nD) (q : Fin 4) : (Finset.univ : Finset (Fin 8)) = (Finset.range 8).image (agChunk d q) := by
  ext c
  obtain ⟨s, hs⟩ := agChunk_surj d q c
  simp only [Finset.mem_univ, Finset.mem_image, true_iff]
  exact ⟨s.val, Finset.mem_range.mpr s.isLt, hs⟩
/-- A stream's strips in the order it meets them. -/
theorem ring_strips (Φ : Fin 8 → sProp (MT nD τ sig ℕ (Elt F) ℕ UU ℕ)) : (bigSep (Finset.range 8) fun t => Φ (agChunk d q t)) = bigSep Finset.univ Φ := by
  rw [agChunk_image d q, bigSep_image_of_injOn]
  intro a ha b hb h
  have ha := Finset.mem_range.mp (Finset.mem_coe.mp ha)
  have hb := Finset.mem_range.mp (Finset.mem_coe.mp hb)
  exact congrArg Fin.val (agChunk_inj d q ⟨a, ha⟩ ⟨b, hb⟩ h)
/-- All the strips, stream by stream in the order they are met. -/
theorem strips_by_stream (Φ : Fin 8 → Fin 4 → sProp (MT nD τ sig ℕ (Elt F) ℕ UU ℕ)) :
    (bigSep Finset.univ fun x : Fin 4 × Fin 8 => Φ x.2 x.1) = all4 fun q => bigSep (Finset.range 8) fun t => Φ (agChunk d q t) q := by
  rw [all4_eq, bigSep_univ_prod]
  exact bigSep_congr fun q _ => (ring_strips d q fun c => Φ c q).symm

/-! ## Strips of a result-sized buffer -/

theorem strips_disjoint (x y : Fin 4 × Fin 8) (h : x ≠ y) : Disjoint (stripR x.2 x.1).set (stripR y.2 y.1).set := by
  refine Rect.unit_disjoint 0 ?_
  show 512 * x.2.val + 128 * x.1.val + 128 ≤ 512 * y.2.val + 128 * y.1.val ∨ 512 * y.2.val + 128 * y.1.val + 128 ≤ 512 * x.2.val + 128 * x.1.val
  have h1 := x.1.isLt
  have h2 := y.1.isLt
  by_contra hc
  exact h (Prod.ext (Fin.ext (by omega)) (Fin.ext (by omega)))
theorem strips_cover : (Finset.univ : Finset (Fin 4 × Fin 8)).biUnion (fun x => (stripR x.2 x.1).set) = Finset.univ := by
  refine Finset.eq_univ_iff_forall.mpr fun i => ?_
  have h0 := ValueIdx.idx2_lt0 (n0 := 4096) (n1 := 2048) i
  have h1 := ValueIdx.idx2_lt1 (n0 := 4096) (n1 := 2048) i
  refine Finset.mem_biUnion.mpr ⟨(⟨(i 0).val / 128 % 4, by omega⟩, ⟨(i 0).val / 512, by omega⟩), Finset.mem_univ _, Rect.mem_set_unit.mpr fun a => ?_⟩
  match a with
  | ⟨0, _⟩ =>
    exact ⟨show 512 * ((i 0).val / 512) + 128 * ((i 0).val / 128 % 4) ≤ (i 0).val by omega,
      show (i 0).val < 512 * ((i 0).val / 512) + 128 * ((i 0).val / 128 % 4) + 128 by omega⟩
  | ⟨1, _⟩ => exact ⟨Nat.zero_le _, show (i 1).val < 0 + 2048 by omega⟩

theorem out_strips (f : (cc0_stg4_0 : Ref sig .tc).ty.Contents (Elt F)) :
    pt (F := F) d outM fullShare f = bigSep Finset.univ fun x : Fin 4 × Fin 8 => pt (F := F) d (outS x.2 x.1) fullShare f := by
  unfold pt
  refine Eq.trans ?_ ((pointsTo_biUnion (ℓ := outM.view.loc (d : Thread nD τ)) (q := fullShare) (f := f) Finset.univ (fun x : Fin 4 × Fin 8 => (stripR x.2 x.1).set)
    (fun x _ y _ h => strips_disjoint x y h)).trans (bigSep_congr fun x _ => ?_))
  · exact congrArg (fun S => (outM.view.loc (d : Thread nD τ) ↦[S]{fullShare} f)) ((View.set_whole cc0_stg4_0).trans strips_cover.symm)
  · exact congrArg (fun S => (outM.view.loc (d : Thread nD τ) ↦[S]{fullShare} f)) (View.set_slice_whole cc0_stg4_0 (stripR x.2 x.1)).symm
theorem gat_strips (f : (cc0_scratch0 : Ref sig .tc).ty.Contents (Elt F)) :
    pt (F := F) d gatM fullShare f = bigSep Finset.univ fun x : Fin 4 × Fin 8 => pt (F := F) d (gatS x.2 x.1) fullShare f := by
  unfold pt
  refine Eq.trans ?_ ((pointsTo_biUnion (ℓ := gatM.view.loc (d : Thread nD τ)) (q := fullShare) (f := f) Finset.univ (fun x : Fin 4 × Fin 8 => (stripR x.2 x.1).set)
    (fun x _ y _ h => strips_disjoint x y h)).trans (bigSep_congr fun x _ => ?_))
  · exact congrArg (fun S => (gatM.view.loc (d : Thread nD τ) ↦[S]{fullShare} f)) ((View.set_whole cc0_scratch0).trans strips_cover.symm)
  · exact congrArg (fun S => (gatM.view.loc (d : Thread nD τ) ↦[S]{fullShare} f)) (View.set_slice_whole cc0_scratch0 (stripR x.2 x.1)).symm

/-- The result's buffer, stream by stream, none done. -/
theorem out_start : oW D d ⊢ all4 fun q => outs D d q 0 := by
  have e : oW D d = all4 fun q => bigSep (Finset.range 8) fun t => oP D d (agChunk d q t) q :=
    (out_strips d (prodC D d)).trans (strips_by_stream d fun c q => oP D d c q)
  rw [e]
  refine all4_mono fun q => ?_
  unfold outs
  rw [Finset.range_zero, bigSep_empty, Finset.range_eq_Ico]
  iintro H
  isplitr; · iempintro
  iexact H
/-- All done: the result. -/
theorem out_end : (all4 fun q => outs D d q 8) ⊢ pt (F := F) d outM fullShare (outC D d) := by
  have e : pt (F := F) d outM fullShare (outC D d) = all4 fun q => bigSep (Finset.range 8) fun t => oO D d (agChunk d q t) q :=
    (out_strips d (outC D d)).trans (strips_by_stream d fun c q => oO D d c q)
  rw [e]
  refine all4_mono fun q => ?_
  unfold outs
  iintro ⟨H, -⟩
  iexact H
/-- The gathered rows, stream by stream. -/
theorem gat_start : anyPt (F := F) d gatM ⊢ all4 fun q => bigSep (Finset.range 8) fun t => gA (F := F) d (agChunk d q t) q := by
  unfold anyPt
  iintro ⟨%f, H⟩
  have e : pt (F := F) d gatM fullShare f ⊢ all4 fun q => bigSep (Finset.range 8) fun t => gA (F := F) d (agChunk d q t) q := by
    rw [(gat_strips d f).trans (strips_by_stream d fun c q => pt (F := F) d (gatS c q) fullShare f)]
    have h : ∀ (c : Fin 8) (q : Fin 4), pt (F := F) d (gatS c q) fullShare f ⊢ gA (F := F) d c q := fun c q => by
      unfold gA anyPt
      iintro H; iexists f; iexact H
    exact all4_mono fun q => bigSep_mono fun t _ => h _ q
  iapply e; iexact H
theorem gat_end : (all4 fun q => bigSep (Finset.range 8) fun t => gP D d (agChunk d q t) q fullShare) ⊢ anyPt (F := F) d gatM := by
  have e : pt (F := F) d gatM fullShare (gatC D) = all4 fun q => bigSep (Finset.range 8) fun t => gP D d (agChunk d q t) q fullShare :=
    (gat_strips d (gatC D)).trans (strips_by_stream d fun c q => gP D d c q fullShare)
  rw [← e]
  unfold anyPt
  iintro H; iexists (gatC D); iexact H

/-! ## The receive slots -/

theorem slotR_disjoint : Disjoint (slotR 0).set (slotR 1).set := Rect.unit_disjoint 0 (Or.inl (by decide))
theorem slotR_cover : (slotR 0).set ∪ (slotR 1).set = Finset.univ := by
  refine Finset.eq_univ_iff_forall.mpr fun i => Finset.mem_union.mpr ?_
  have h0 : (i 0).val < 2 := (i 0).isLt
  have h1 : (i 1).val < 128 := (i 1).isLt
  have h2 : (i 2).val < 2048 := (i 2).isLt
  rcases (show (i 0).val = 0 ∨ (i 0).val = 1 by omega) with h | h
  · refine Or.inl (Rect.mem_set_unit.mpr fun a => ?_)
    match a with
    | ⟨0, _⟩ => exact ⟨Nat.zero_le _, show (i 0).val < 0 + 1 by omega⟩
    | ⟨1, _⟩ => exact ⟨Nat.zero_le _, show (i 1).val < 0 + 128 by omega⟩
    | ⟨2, _⟩ => exact ⟨Nat.zero_le _, show (i 2).val < 0 + 2048 by omega⟩
  · refine Or.inr (Rect.mem_set_unit.mpr fun a => ?_)
    match a with
    | ⟨0, _⟩ => exact ⟨show 1 ≤ (i 0).val by omega, show (i 0).val < 1 + 1 by omega⟩
    | ⟨1, _⟩ => exact ⟨Nat.zero_le _, show (i 1).val < 0 + 128 by omega⟩
    | ⟨2, _⟩ => exact ⟨Nat.zero_le _, show (i 2).val < 0 + 2048 by omega⟩

theorem comm_set : (commM q).view.set = (slotM q 0).view.set ∪ (slotM q 1).view.set := by
  rw [slot_set, slot_set, ← View.setOn_univ, ← slotR_cover]
  exact Finset.map_union _ _
theorem comm_disjoint : Disjoint (slotM q 0).view.set (slotM q 1).view.set := by
  rw [slot_set, slot_set]
  exact (Finset.disjoint_map _).mpr slotR_disjoint
theorem comm_split : anyPt (F := F) d (commM q) ⊢ iprop(slotP (F := F) (d, q, 0) ∗ slotP (F := F) (d, q, 1)) := by
  unfold anyPt pt slotP slot
  rw [comm_set]
  iintro ⟨%f, H⟩
  ihave H := (pointsTo_union (comm_disjoint q)).1 $$ H
  icases H with ⟨H0, H1⟩
  isplitl [H0]
  · iexists f; iexact H0
  iexists f; iexact H1
theorem comm_join : iprop(slotP (F := F) (d, q, 0) ∗ slotP (F := F) (d, q, 1)) ⊢ anyPt (F := F) d (commM q) := by
  unfold anyPt pt slotP slot
  rw [comm_set]
  iintro ⟨⟨%f, H0⟩, ⟨%g, H1⟩⟩
  iexists _
  iapply (pointsTo_join (comm_disjoint q))
  isplitl [H0]; · iexact H0
  iexact H1

end Cert.KernelIdeal.Mesh

end
-- ==== Proof.Mesh.Rounds.lean ====
/- The body from the meeting to the last strip. -/
module

public import proofs.«01_k».proof.Proof.Mesh.Strips
public import Idealize.ShloMosaic.Lib.SparseCore.Launch

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (D : Data F) (K : Names)
variable (d : Dev nD) (q : Fin 4) (k : P F) (Ψ : PUnit.{1} → sProp (MT nD τ sig ℕ (Elt F) ℕ UU ℕ))

/-- A stage run for the four streams in the kernel's order. -/
theorem streams_wp (f : Fin 4 → P F → P F) (A B : Fin 4 → sProp (MT nD τ sig ℕ (Elt F) ℕ UU ℕ)) (C : sProp (MT nD τ sig ℕ (Elt F) ℕ UU ℕ)) (n δ : ℕ)
    (h : ∀ q k, iprop(ctx D K ∗ C ∗ ow d (n + δ * ord q) ∗ A q) ⊢ iprop(((C ∗ ow d (n + δ * (ord q + 1)) ∗ B q) -∗ WP d k Ψ) -∗ WP d (f q k) Ψ)) :
    iprop(ctx D K ∗ C ∗ ow d n ∗ all4 A) ⊢ iprop(((C ∗ ow d (n + δ * 4) ∗ all4 B) -∗ WP d k Ψ) -∗ WP d (streams f k) Ψ) := by
  unfold streams all4
  iintro ⟨#Hc, HC, HO, H0, H1, H2, H3⟩ Hk
  iapply (h 0 _) $$ [HC HO H0]
  · isplitr; · iexact Hc
    isplitl [HC]; · iexact HC
    isplitl [HO]; · iexact HO
    iexact H0
  iintro ⟨HC, HO, H0⟩
  iapply (h 2 _) $$ [HC HO H2]
  · isplitr; · iexact Hc
    isplitl [HC]; · iexact HC
    isplitl [HO]; · iexact HO
    iexact H2
  iintro ⟨HC, HO, H2⟩
  iapply (h 1 _) $$ [HC HO H1]
  · isplitr; · iexact Hc
    isplitl [HC]; · iexact HC
    isplitl [HO]; · iexact HO
    iexact H1
  iintro ⟨HC, HO, H1⟩
  iapply (h 3 _) $$ [HC HO H3]
  · isplitr; · iexact Hc
    isplitl [HC]; · iexact HC
    isplitl [HO]; · iexact HO
    iexact H3
  iintro ⟨HC, HO, H3⟩
  iapply Hk
  isplitl [HC]; · iexact HC
  isplitl [HO]; · iexact HO
  isplitl [H0]; · iexact H0
  isplitl [H1]; · iexact H1
  isplitl [H2]; · iexact H2
  iexact H3

/-! ## What a stream starts with -/

/-- The right to forward at gathering hop `t`. -/
def agTok (t : ℕ) : sProp 𝕄 := iprop(tok d (Pay.ag q (f7 t)) ∗ dutyTok ER (agSCell d q) t 0)
/-- The reduction's own, but for the buffer sent. -/
def rsRest : sProp 𝕄 :=
  iprop(hopAt d q 0 ∗ hopAt d q 1 ∗ atPos ER (rsSCell d q) 0 ∅ 0 ∗ bigSep (Finset.Ico 0 7) (rsIn d q) ∗ bigSep (Finset.Ico 0 7) (rsOut d q) ∗ crSt d q 0)
/-- The gathering's own. -/
def agRest : sProp 𝕄 :=
  iprop(bigSep (Finset.Ico 0 7) (agIn d q) ∗ bigSep (Finset.Ico 0 7) (agTok d q) ∗ atPos ER (agSCell d q) 0 ∅ 0 ∗ gA (F := F) d (agChunk d q 0) q)
/-- The gathering's own once the neighbours are met. -/
def agJ : sProp 𝕄 :=
  iprop(bigSep (Finset.Ico 0 7) (agIn d q) ∗ bigSep (Finset.Ico 0 7) (agOut d q) ∗ atPos ER (agSCell d q) 0 ∅ 0 ∗ gA (F := F) d (agChunk d q 0) q)
/-- The reduction's own once the neighbours are met. -/
def rsJ : sProp 𝕄 := iprop(rsRest d q ∗ fact (F := F) (dest d q) q 0 ∗ fact (F := F) (dest d q) q 1)

theorem met : iprop(entry (F := F) d q ∗ rsRest d q ∗ agRest d q) ⊢ (iprop(rsJ d q ∗ agJ d q) : sProp 𝕄) := by
  have e : iprop((bigSep (Finset.Ico 0 7) fun s => anyPt (F := F) (dest d q) (gatS (agChunk d q s) q)) ∗ bigSep (Finset.Ico 0 7) (agTok d q))
      ⊢ (bigSep (Finset.Ico 0 7) (agOut d q) : sProp 𝕄) := by
    rw [← bigSep_sep']
    have h : ∀ t, iprop(anyPt (F := F) (dest d q) (gatS (agChunk d q t) q) ∗ agTok d q t) ⊢ (agOut d q t : sProp 𝕄) := fun t => by
      unfold agTok agOut gA
      iintro ⟨Hg, Ht, Hd⟩
      isplitl [Ht]; · iexact Ht
      isplitl [Hg]; · iexact Hg
      iexact Hd
    exact bigSep_mono fun t _ => h t
  unfold entry agRest rsJ agJ
  iintro ⟨⟨H0, H1, Hg⟩, Hr, Hin, Ht, Hat, Hgo⟩
  isplitl [H0 H1 Hr]
  · isplitl [Hr]; · iexact Hr
    isplitl [H0]; · iexact H0
    iexact H1
  isplitl [Hin]; · iexact Hin
  isplitl [Hg Ht]
  · iapply e
    isplitl [Hg]; · iexact Hg
    iexact Ht
  isplitl [Hat]; · iexact Hat
  iexact Hgo

theorem pos_rs_zero : ∀ q : Fin 4, pos (Pay.rs q 0) = 3 + 1 * ord q := by decide +kernel

/-- A stream's first send. -/
theorem first_send (C : sProp (MT nD τ sig ℕ (Elt F) ℕ UU ℕ)) :
    iprop(ctx D K ∗ C ∗ ow d (3 + 1 * ord q) ∗ owns (d : Thread nD τ) (stageM q) fullShare (acc D 0 d q) ∗ rsJ d q)
      ⊢ iprop(((C ∗ ow d (3 + 1 * (ord q + 1)) ∗ rsA d q 0) -∗ WP d k Ψ) -∗ WP d (rsSend d q 0 k) Ψ) := by
  have h1 : 3 + 1 * (ord q + 1) = pos (Pay.rs q 0) + 1 := by rw [pos_rs_zero]; omega
  rw [h1, ← pos_rs_zero]
  unfold rsJ rsRest rsA
  rw [show (bigSep (Finset.Ico 0 7) (rsOut d q) : sProp 𝕄) = _ from rsOut_take d q 0]
  iintro ⟨#Hc, HC, HO, Hs, ⟨Hh, Hh', Hat, Hin, ⟨⟨Ht, Hw, Hd⟩, Hout⟩, Hst⟩, Hf0, Hf1⟩ Hk
  iapply (rs_send D K d q k Ψ 0) $$ [HO Hs Ht Hw Hd Hf0]
  · isplitr; · iexact Hc
    isplitl [HO]; · iexact HO
    isplitl [Hs]; · iexact Hs
    isplitl [Ht]; · iexact Ht
    isplitl [Hw]; · iexact Hw
    isplitl [Hf0]; · iexact Hf0
    isplitl [Hd]; · iexact Hd
    iapply (ctx_reached D K d (on_rsS q)); iexact Hc
  iintro ⟨HO, Hcr⟩
  iapply Hk
  isplitl [HC]; · iexact HC
  isplitl [HO]; · iexact HO
  isplitl [Hh]; · iexact Hh
  isplitl [Hh']; · iexact Hh'
  isplitl [Hat]; · iexact Hat
  isplitl [Hcr]; · iexact Hcr
  isplitl [Hin]; · iexact Hin
  isplitl [Hout]; · iexact Hout
  isplitl [Hst]; · iexact Hst
  isplitr; · unfold facts; rw [Finset.range_zero, bigSep_empty]; iempintro
  iexact Hf1

/-! ## The hops -/

/-- One reduction hop of the four streams. -/
theorem rs_round (s : Fin 7) (h6 : s.val < 6) (n m : ℕ) (hn : n = 7 + 8 * s.val) (hm : m = n + 8) (s' : ℕ) (hs : s' = s.val + 1) :
    iprop(ctx D K ∗ oW D d ∗ ow d n ∗ all4 fun q => rsA d q s.val)
      ⊢ iprop(((oW D d ∗ ow d m ∗ all4 fun q => rsA d q s') -∗ WP d k Ψ) -∗ WP d (streams (rsHop d (scale D d) s) k) Ψ) := by
  subst hm hs
  exact streams_wp D K d k Ψ _ _ _ _ n 2 fun q k => by
    have e : n + 2 * (ord q + 1) = n + 2 * ord q + 2 := by omega
    rw [e]
    exact rs_hop D K d q k Ψ (scale D d) s h6 _ (by omega)

/-- The last reduction hop of the four streams. -/
theorem rs_round_last :
    iprop(ctx D K ∗ emp ∗ ow d 55 ∗ all4 fun q => iprop(rsA d q 6 ∗ agI D d q))
      ⊢ iprop(((emp ∗ ow d 63 ∗ all4 fun q => iprop(rsEnd d q ∗ agA D d q 0)) -∗ WP d k Ψ) -∗ WP d (streams (rsHop d (scale D d) 6) k) Ψ) :=
  streams_wp D K d k Ψ _ _ _ _ 55 2 fun q k => by
    have e : 55 + 2 * (ord q + 1) = 55 + 2 * ord q + 2 := by omega
    rw [e]
    iintro ⟨#Hc, -, HO, HA⟩ Hk
    iapply (rs_last D K d q k Ψ (55 + 2 * ord q) (by omega)) $$ [HO HA]
    · isplitr; · iexact Hc
      isplitl [HO]; · iexact HO
      iexact HA
    iintro H
    iapply Hk
    isplitr; · iempintro
    iexact H

/-- One gathering hop of the four streams. -/
theorem ag_round (s : Fin 7) (h6 : s.val < 6) (n m : ℕ) (hn : n = 63 + 4 * s.val) (hm : m = n + 4) (s' : ℕ) (hs : s' = s.val + 1) :
    iprop(ctx D K ∗ emp ∗ ow d n ∗ all4 fun q => agA D d q s.val)
      ⊢ iprop(((emp ∗ ow d m ∗ all4 fun q => agA D d q s') -∗ WP d k Ψ) -∗ WP d (streams (agHop d (scale D d) s) k) Ψ) := by
  subst hm hs
  exact streams_wp D K d k Ψ _ _ _ _ n 1 fun q k => by
    have e : n + 1 * (ord q + 1) = n + 1 * ord q + 1 := by omega
    rw [e]
    iintro ⟨#Hc, -, HO, HA⟩ Hk
    iapply (ag_hop D K d q k Ψ s h6 (n + 1 * ord q) (by omega)) $$ [HO HA]
    · isplitr; · iexact Hc
      isplitl [HO]; · iexact HO
      iexact HA
    iintro H
    iapply Hk
    isplitr; · iempintro
    iexact H

/-- The last gathering hop of the four streams. -/
theorem ag_round_last :
    iprop(ctx D K ∗ emp ∗ ow d 87 ∗ all4 fun q => agA D d q 6)
      ⊢ iprop(((emp ∗ ow d 87 ∗ all4 fun q => agEnd D d q) -∗ WP d k Ψ) -∗ WP d (streams (agHop d (scale D d) 6) k) Ψ) :=
  streams_wp D K d k Ψ _ _ _ _ 87 0 fun q k => by
    rw [Nat.zero_mul, Nat.zero_mul]
    iintro ⟨#Hc, -, HO, HA⟩ Hk
    iapply (ag_last D K d q k Ψ 87 (le_refl _)) $$ [HO HA]
    · isplitr; · iexact Hc
      isplitl [HO]; · iexact HO
      iexact HA
    iintro H
    iapply Hk
    isplitr; · iempintro
    iexact H

/-- The seven reduction hops. -/
theorem rs_hops :
    iprop(ctx D K ∗ oW D d ∗ ow d 7 ∗ (all4 fun q => rsA d q 0) ∗ all4 fun q => agJ d q)
      ⊢ iprop(((ow d 63 ∗ all4 fun q => iprop(rsEnd d q ∗ agA D d q 0)) -∗ WP d k Ψ) -∗ WP d (hops (fun s => streams (rsHop d (scale D d) s)) k) Ψ) := by
  unfold hops
  iintro ⟨#Hc, HW, HO, HA, HJ⟩ Hk
  iapply (rs_round D K d _ Ψ 0 (by decide) 7 15 rfl rfl 1 rfl) $$ [HW HO HA]
  · isplitr; · iexact Hc
    isplitl [HW]; · iexact HW
    isplitl [HO]; · iexact HO
    iexact HA
  iintro ⟨HW, HO, HA⟩
  iapply (rs_round D K d _ Ψ 1 (by decide) 15 23 rfl rfl 2 rfl) $$ [HW HO HA]
  · isplitr; · iexact Hc
    isplitl [HW]; · iexact HW
    isplitl [HO]; · iexact HO
    iexact HA
  iintro ⟨HW, HO, HA⟩
  iapply (rs_round D K d _ Ψ 2 (by decide) 23 31 rfl rfl 3 rfl) $$ [HW HO HA]
  · isplitr; · iexact Hc
    isplitl [HW]; · iexact HW
    isplitl [HO]; · iexact HO
    iexact HA
  iintro ⟨HW, HO, HA⟩
  iapply (rs_round D K d _ Ψ 3 (by decide) 31 39 rfl rfl 4 rfl) $$ [HW HO HA]
  · isplitr; · iexact Hc
    isplitl [HW]; · iexact HW
    isplitl [HO]; · iexact HO
    iexact HA
  iintro ⟨HW, HO, HA⟩
  iapply (rs_round D K d _ Ψ 4 (by decide) 39 47 rfl rfl 5 rfl) $$ [HW HO HA]
  · isplitr; · iexact Hc
    isplitl [HW]; · iexact HW
    isplitl [HO]; · iexact HO
    iexact HA
  iintro ⟨HW, HO, HA⟩
  iapply (rs_round D K d _ Ψ 5 (by decide) 47 55 rfl rfl 6 rfl) $$ [HW HO HA]
  · isplitr; · iexact Hc
    isplitl [HW]; · iexact HW
    isplitl [HO]; · iexact HO
    iexact HA
  iintro ⟨HW, HO, HA⟩
  ihave HW := (out_start D d) $$ HW
  have e : iprop((all4 fun q => rsA d q 6) ∗ (all4 fun q => agJ d q) ∗ all4 fun q => outs D d q 0) ⊢ all4 fun q => iprop(rsA d q 6 ∗ agI D d q) := by
    rw [← all4_sep, ← all4_sep]
    have h : ∀ q, iprop(rsA d q 6 ∗ agJ d q ∗ outs D d q 0) ⊢ iprop(rsA d q 6 ∗ agI D d q) := fun q => by
      unfold agI agJ
      iintro ⟨HA, ⟨H1, H2, H3, H4⟩, HW⟩
      isplitl [HA]; · iexact HA
      isplitl [H1]; · iexact H1
      isplitl [H2]; · iexact H2
      isplitl [H3]; · iexact H3
      isplitl [H4]; · iexact H4
      iexact HW
    exact all4_mono h
  iapply (rs_round_last D K d _ Ψ) $$ [HW HO HA HJ]
  · isplitr; · iexact Hc
    isplitr; · iempintro
    isplitl [HO]; · iexact HO
    iapply e
    isplitl [HA]; · iexact HA
    isplitl [HJ]; · iexact HJ
    iexact HW
  iintro ⟨-, H⟩
  iapply Hk; iexact H

/-- The seven gathering hops. -/
theorem ag_hops :
    iprop(ctx D K ∗ ow d 63 ∗ all4 fun q => agA D d q 0)
      ⊢ iprop(((ow d 87 ∗ all4 fun q => agEnd D d q) -∗ WP d k Ψ) -∗ WP d (hops (fun s => streams (agHop d (scale D d) s)) k) Ψ) := by
  unfold hops
  iintro ⟨#Hc, HO, HA⟩ Hk
  iapply (ag_round D K d _ Ψ 0 (by decide) 63 67 rfl rfl 1 rfl) $$ [HO HA]
  · isplitr; · iexact Hc
    isplitr; · iempintro
    isplitl [HO]; · iexact HO
    iexact HA
  iintro ⟨-, HO, HA⟩
  iapply (ag_round D K d _ Ψ 1 (by decide) 67 71 rfl rfl 2 rfl) $$ [HO HA]
  · isplitr; · iexact Hc
    isplitr; · iempintro
    isplitl [HO]; · iexact HO
    iexact HA
  iintro ⟨-, HO, HA⟩
  iapply (ag_round D K d _ Ψ 2 (by decide) 71 75 rfl rfl 3 rfl) $$ [HO HA]
  · isplitr; · iexact Hc
    isplitr; · iempintro
    isplitl [HO]; · iexact HO
    iexact HA
  iintro ⟨-, HO, HA⟩
  iapply (ag_round D K d _ Ψ 3 (by decide) 75 79 rfl rfl 4 rfl) $$ [HO HA]
  · isplitr; · iexact Hc
    isplitr; · iempintro
    isplitl [HO]; · iexact HO
    iexact HA
  iintro ⟨-, HO, HA⟩
  iapply (ag_round D K d _ Ψ 4 (by decide) 79 83 rfl rfl 5 rfl) $$ [HO HA]
  · isplitr; · iexact Hc
    isplitr; · iempintro
    isplitl [HO]; · iexact HO
    iexact HA
  iintro ⟨-, HO, HA⟩
  iapply (ag_round D K d _ Ψ 5 (by decide) 83 87 rfl rfl 6 rfl) $$ [HO HA]
  · isplitr; · iexact Hc
    isplitr; · iempintro
    isplitl [HO]; · iexact HO
    iexact HA
  iintro ⟨-, HO, HA⟩
  iapply (ag_round_last D K d _ Ψ) $$ [HO HA]
  · isplitr; · iexact Hc
    isplitr; · iempintro
    isplitl [HO]; · iexact HO
    iexact HA
  iintro ⟨-, H⟩
  iapply Hk; iexact H

end Cert.KernelIdeal.Mesh

end
-- ==== Proof.Mesh.Body.lean ====
/- The whole body. -/
module

public import proofs.«01_k».proof.Proof.Mesh.Rounds

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (D : Data F) (K : Names)
variable (d : Dev nD) (q : Fin 4) (k : P F) (Ψ : PUnit.{1} → sProp (MT nD τ sig ℕ (Elt F) ℕ UU ℕ))

/-- What a stream holds before the meeting. -/
def strS : sProp 𝕄 := iprop(rsRest d q ∗ agRest d q ∗ anyPt (F := F) d (stageM q))
/-- What a stream's reduction holds at the end. -/
def rsFin : sProp 𝕄 :=
  iprop(hopAt d q 7 ∗ hopAt d q 8 ∗ atPos ER (rsSCell d q) 7 ∅ 0 ∗ anyPt (F := F) d (stageM q) ∗ atPos ER (crCell d q) 1 ∅ 0 ∗ facts (F := F) d q 7)
/-- What the meeting takes. -/
def meet : sProp 𝕄 :=
  iprop(tok d (.inl false) ∗ tok d (.inl true) ∗ entry (F := F) (left d) 0 ∗ entry (F := F) (left d) 1 ∗ entry (F := F) (right d) 2 ∗ entry (F := F) (right d) 3
    ∗ crd d (.inl false) ∗ crd d (.inl true) ∗ atPos ER (barCell d) 0 ∅ 0)
/-- The operands. -/
def ins : sProp 𝕄 :=
  iprop((pt (F := F) d xM fullShare (D.x d) ∗ pt (F := F) d wM fullShare (D.w d)) ∗ pt (F := F) d sxM fullShare (D.sx d) ∗ pt (F := F) d swM fullShare (D.sw d))

theorem pos_cr_lt : ∀ (q : Fin 4) (s : Fin 7), pos (Pay.cr q s) < 63 := by decide +kernel

/-- The last two credits of a stream awaited. -/
theorem cr_end :
    iprop(ctx D K ∗ ow d 63 ∗ rsEnd (F := F) d q) ⊢ iprop(((ow d 63 ∗ rsFin (F := F) d q) -∗ WP d k Ψ) -∗ WP d (credWait q 2#32 k) Ψ) := by
  unfold rsEnd rsFin
  iintro ⟨#Hc, HO, Hh, Hh', Hat, Hs, ⟨Hcr, Hc5, Hc6⟩, Hf⟩ Hk
  iapply (cr_wait_two D K d q k Ψ 63 (pos_cr_lt q 5) (pos_cr_lt q 6)) $$ [HO Hcr Hc5 Hc6]
  · isplitr; · iexact Hc
    isplitl [HO]; · iexact HO
    isplitl [Hc5]; · iexact Hc5
    isplitl [Hc6]; · iexact Hc6
    iexact Hcr
  iintro ⟨HO, Hcr⟩
  iapply Hk
  isplitl [HO]; · iexact HO
  isplitl [Hh]; · iexact Hh
  isplitl [Hh']; · iexact Hh'
  isplitl [Hat]; · iexact Hat
  isplitl [Hs]; · iexact Hs
  isplitl [Hcr]; · iexact Hcr
  iexact Hf

/-- The four streams' credits awaited. -/
theorem cr_ends :
    iprop(ctx D K ∗ ow d 63 ∗ all4 fun q => rsEnd (F := F) d q)
      ⊢ iprop(((ow d 63 ∗ all4 fun q => rsFin (F := F) d q) -∗ WP d k Ψ)
        -∗ WP d (credWait 0 2#32 <| credWait 1 2#32 <| credWait 2 2#32 <| credWait 3 2#32 k) Ψ) := by
  unfold all4
  iintro ⟨#Hc, HO, H0, H1, H2, H3⟩ Hk
  iapply (cr_end D K d 0 _ Ψ) $$ [HO H0]
  · isplitr; · iexact Hc
    isplitl [HO]; · iexact HO
    iexact H0
  iintro ⟨HO, H0⟩
  iapply (cr_end D K d 1 _ Ψ) $$ [HO H1]
  · isplitr; · iexact Hc
    isplitl [HO]; · iexact HO
    iexact H1
  iintro ⟨HO, H1⟩
  iapply (cr_end D K d 2 _ Ψ) $$ [HO H2]
  · isplitr; · iexact Hc
    isplitl [HO]; · iexact HO
    iexact H2
  iintro ⟨HO, H2⟩
  iapply (cr_end D K d 3 _ Ψ) $$ [HO H3]
  · isplitr; · iexact Hc
    isplitl [HO]; · iexact HO
    iexact H3
  iintro ⟨HO, H3⟩
  iapply Hk
  isplitl [HO]; · iexact HO
  isplitl [H0]; · iexact H0
  isplitl [H1]; · iexact H1
  isplitl [H2]; · iexact H2
  iexact H3

/-- The four first sends' buffers filled. -/
theorem rounds_step :
    iprop(outAt D d 1 ∗ all4 fun q => anyPt (F := F) d (stageM q))
      ⊢ iprop(((outAt D d 1 ∗ all4 fun q => owns (d : Thread nD τ) (stageM q) fullShare (acc D 0 d q)) -∗ WP d k Ψ)
        -∗ WP d (roundStage d 0 <| roundStage d 1 <| roundStage d 2 <| roundStage d 3 k) Ψ) := by
  unfold all4
  iintro ⟨HO, H0, H1, H2, H3⟩ Hk
  iapply (round_step D d 0 _ Ψ) $$ [HO H0]
  · isplitl [HO]; · iexact HO
    iexact H0
  iintro ⟨HO, H0⟩
  iapply (round_step D d 1 _ Ψ) $$ [HO H1]
  · isplitl [HO]; · iexact HO
    iexact H1
  iintro ⟨HO, H1⟩
  iapply (round_step D d 2 _ Ψ) $$ [HO H2]
  · isplitl [HO]; · iexact HO
    iexact H2
  iintro ⟨HO, H2⟩
  iapply (round_step D d 3 _ Ψ) $$ [HO H3]
  · isplitl [HO]; · iexact HO
    iexact H3
  iintro ⟨HO, H3⟩
  iapply Hk
  isplitl [HO]; · iexact HO
  isplitl [H0]; · iexact H0
  isplitl [H1]; · iexact H1
  isplitl [H2]; · iexact H2
  iexact H3

/-- One chunk's product, the operands kept together. -/
theorem mul_next (j : Fin 8) (n n' : ℕ) (hn : j.val = n) (hn' : n + 1 = n') (X : sProp (MT nD τ sig ℕ (Elt F) ℕ UU ℕ)) :
    iprop(((pt (F := F) d xM fullShare (D.x d) ∗ pt (F := F) d wM fullShare (D.w d)) ∗ X) ∗ outAt D d n)
      ⊢ iprop(((((pt (F := F) d xM fullShare (D.x d) ∗ pt (F := F) d wM fullShare (D.w d)) ∗ X) ∗ outAt D d n') -∗ WP d k Ψ) -∗ WP d (mulStage d j k) Ψ) := by
  subst hn hn'
  iintro ⟨⟨⟨Hx, Hw⟩, HX⟩, HO⟩ Hk
  iapply (mul_step D d k Ψ j) $$ [Hx Hw HO]
  · isplitl [Hx]; · iexact Hx
    isplitl [Hw]; · iexact Hw
    iexact HO
  iintro ⟨Hx, Hw, HO⟩
  iapply Hk
  isplitr [HO]
  · isplitl [Hx Hw]
    · isplitl [Hx]; · iexact Hx
      iexact Hw
    iexact HX
  iexact HO

/-- The other seven products. -/
theorem muls :
    iprop(ins D d ∗ outAt D d 1)
      ⊢ iprop(((ins D d ∗ oW D d) -∗ WP d k Ψ)
        -∗ WP d (mulStage d 1 <| mulStage d 2 <| mulStage d 3 <| mulStage d 4 <| mulStage d 5 <| mulStage d 6 <| mulStage d 7 k) Ψ) := by
  unfold ins
  iintro H Hk
  iapply (mul_next D d _ Ψ 1 1 2 rfl rfl _) $$ H; iintro H
  iapply (mul_next D d _ Ψ 2 2 3 rfl rfl _) $$ H; iintro H
  iapply (mul_next D d _ Ψ 3 3 4 rfl rfl _) $$ H; iintro H
  iapply (mul_next D d _ Ψ 4 4 5 rfl rfl _) $$ H; iintro H
  iapply (mul_next D d _ Ψ 5 5 6 rfl rfl _) $$ H; iintro H
  iapply (mul_next D d _ Ψ 6 6 7 rfl rfl _) $$ H; iintro H
  iapply (mul_next D d _ Ψ 7 7 8 rfl rfl _) $$ H; iintro ⟨HI, HO⟩
  iapply Hk
  isplitl [HI]; · iexact HI
  iapply (outAt_all D d); iexact HO

/-- The body on device `d`. -/
theorem body_run :
    iprop(ctx D K ∗ ow d 1 ∗ meet d ∗ ins D d ∗ anyPt (F := F) d outM ∗ all4 fun q => strS d q)
      ⊢ iprop(((ow d 87 ∗ atPos ER (barCell d) 1 ∅ 0 ∗ ins D d ∗ (all4 fun q => rsFin (F := F) d q) ∗ all4 fun q => agEnd D d q) -∗ WP d (.ret ⟨⟩) Ψ)
        -∗ WP d (bodyOn d) Ψ) := by
  unfold bodyOn meet
  iintro ⟨#Hc, HO, Hm, HI, Hout, HS⟩ Hk
  iapply (entry_step D K d _ Ψ) $$ [HO Hm]
  · isplitr; · iexact Hc
    isplitl [HO]; · iexact HO
    iexact Hm
  iintro ⟨HO, Hbar, He⟩
  have e1 : iprop((all4 fun q => entry (F := F) d q) ∗ all4 fun q => strS d q)
      ⊢ (iprop((all4 fun q => iprop(rsJ (F := F) d q ∗ agJ d q)) ∗ all4 fun q => anyPt (F := F) d (stageM q)) : sProp 𝕄) := by
    rw [← all4_sep, ← all4_sep]
    have h : ∀ q, iprop(entry (F := F) d q ∗ strS d q) ⊢ (iprop((rsJ d q ∗ agJ d q) ∗ anyPt (F := F) d (stageM q)) : sProp 𝕄) := fun q => by
      unfold strS
      iintro ⟨He, Hr, Ha, Hs⟩
      isplitr [Hs]
      · iapply (met d q)
        isplitl [He]; · iexact He
        isplitl [Hr]; · iexact Hr
        iexact Ha
      iexact Hs
    exact all4_mono h
  have e0 : iprop(entry (F := F) d 0 ∗ entry (F := F) d 1 ∗ entry (F := F) d 2 ∗ entry (F := F) d 3) ⊢ (all4 fun q => entry (F := F) d q : sProp 𝕄) := BI.Entails.refl _
  have e2 : iprop((all4 fun q => owns (d : Thread nD τ) (stageM q) fullShare (acc D 0 d q)) ∗ all4 fun q => rsJ (F := F) d q)
      ⊢ (all4 fun q => iprop(owns (d : Thread nD τ) (stageM q) fullShare (acc D 0 d q) ∗ rsJ (F := F) d q) : sProp 𝕄) := Entails.of_eq (all4_sep _ _).symm
  ihave He := e0 $$ He
  ihave HJ := e1 $$ [He HS]
  · isplitl [He]; · iexact He
    iexact HS
  icases HJ with ⟨HJ, Hst⟩
  ihave HJ := (Entails.of_eq (all4_sep _ _)) $$ HJ
  icases HJ with ⟨HrJ, HaJ⟩
  ihave Hout := (outAt_zero D d) $$ Hout
  ihave HI := (show ins D d ⊢ _ from by unfold ins; exact BI.Entails.refl _) $$ HI
  iapply (mul_next D d _ Ψ 0 0 1 rfl rfl _) $$ [HI Hout]
  · isplitl [HI]; · iexact HI
    iexact Hout
  iintro ⟨HI, Hout⟩
  iapply (rounds_step D d _ Ψ) $$ [Hout Hst]
  · isplitl [Hout]; · iexact Hout
    iexact Hst
  iintro ⟨Hout, Hst⟩
  ihave HrJ := e2 $$ [Hst HrJ]
  · isplitl [Hst]; · iexact Hst
    iexact HrJ
  iapply (streams_wp D K d _ Ψ (fun q => rsSend d q 0) _ _ iprop(emp) 3 1 fun q k => first_send D K d q k Ψ _) $$ [HO HrJ]
  · isplitr; · iexact Hc
    isplitr; · iempintro
    isplitl [HO]; · iexact HO
    iexact HrJ
  iintro ⟨-, HO, HrA⟩
  iapply (muls D d _ Ψ) $$ [HI Hout]
  · isplitl [HI]; · unfold ins; iexact HI
    iexact Hout
  iintro ⟨HI, HW⟩
  unfold ins
  icases HI with ⟨HI, HI'⟩
  iapply (scale_step D d Ψ) $$ HI'
  iintro HI'
  iapply (rs_hops D K d _ Ψ) $$ [HO HW HrA HaJ]
  · isplitr; · iexact Hc
    isplitl [HW]; · iexact HW
    isplitl [HO]; · iexact HO
    isplitl [HrA]; · iexact HrA
    iexact HaJ
  iintro ⟨HO, HA⟩
  ihave HA := (Entails.of_eq (all4_sep _ _)) $$ HA
  icases HA with ⟨HR, HA⟩
  iapply (cr_ends D K d _ Ψ) $$ [HO HR]
  · isplitr; · iexact Hc
    isplitl [HO]; · iexact HO
    iexact HR
  iintro ⟨HO, HR⟩
  iapply (ag_hops D K d _ Ψ) $$ [HO HA]
  · isplitr; · iexact Hc
    isplitl [HO]; · iexact HO
    iexact HA
  iintro ⟨HO, HA⟩
  iapply Hk
  isplitl [HO]; · iexact HO
  isplitl [Hbar]; · iexact Hbar
  isplitl [HI HI']
  · isplitl [HI]; · iexact HI
    iexact HI'
  isplitl [HR]; · iexact HR
  iexact HA

end Cert.KernelIdeal.Mesh

end
-- ==== Proof.Mesh.Deal.lean ====
/- What a device starts from, split among the streams, and what it ends with, put together again. -/
module

public import proofs.«01_k».proof.Proof.Mesh.Body
public import Idealize.ShloMosaic.Lib.Rounds.Family

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (D : Data F) (K : Names)
variable (d : Dev nD) (q : Fin 4) (k : P F) (Ψ : PUnit.{1} → sProp (MT nD τ sig ℕ (Elt F) ℕ UU ℕ))

/-! ## Families, by stream -/

section Families
variable (Φ : SemLoc sig → sProp (MT nD τ sig ℕ (Elt F) ℕ UU ℕ)) (Θ : Pay → sProp (MT nD τ sig ℕ (Elt F) ℕ UU ℕ))

theorem fin7 (A : Fin 7 → sProp (MT nD τ sig ℕ (Elt F) ℕ UU ℕ)) : bigSep Finset.univ A = bigSep (Finset.Ico 0 7) fun t => A (f7 t) := by
  rw [bigSep_univ_eq_bigSepL [0, 1, 2, 3, 4, 5, 6] (by decide) (by decide), bigSep_eq_bigSepL_of_eq [0, 1, 2, 3, 4, 5, 6] (by decide) (by decide)]
  rfl

theorem sep_assoc5 (A0 A1 A2 A3 A4 A5 : sProp (MT nD τ sig ℕ (Elt F) ℕ UU ℕ)) :
    iprop((A0 ∗ A1 ∗ A2 ∗ A3 ∗ A4) ∗ A5) = iprop(A0 ∗ A1 ∗ A2 ∗ A3 ∗ A4 ∗ A5) := by
  have h1 : iprop((A0 ∗ A1 ∗ A2 ∗ A3 ∗ A4) ∗ A5) ⊢ iprop(A0 ∗ A1 ∗ A2 ∗ A3 ∗ A4 ∗ A5) := by
    iintro ⟨⟨H0, H1, H2, H3, H4⟩, H5⟩
    isplitl [H0]; · iexact H0
    isplitl [H1]; · iexact H1
    isplitl [H2]; · iexact H2
    isplitl [H3]; · iexact H3
    isplitl [H4]; · iexact H4
    iexact H5
  have h2 : iprop(A0 ∗ A1 ∗ A2 ∗ A3 ∗ A4 ∗ A5) ⊢ iprop((A0 ∗ A1 ∗ A2 ∗ A3 ∗ A4) ∗ A5) := by
    iintro ⟨H0, H1, H2, H3, H4, H5⟩
    isplitr [H5]
    · isplitl [H0]; · iexact H0
      isplitl [H1]; · iexact H1
      isplitl [H2]; · iexact H2
      isplitl [H3]; · iexact H3
      iexact H4
    iexact H5
  exact BI.Entails.antisymm h1 h2

/-- One stream's semaphores. -/
def strm (q : Fin 4) : sProp 𝕄 :=
  iprop(Φ (.reg (credS q)) ∗ Φ (.dma (rsSendS q)) ∗ Φ (.dma (rsRecvS q 0)) ∗ Φ (.dma (rsRecvS q 1)) ∗ Φ (.dma (agSendS q))
    ∗ bigSep (Finset.Ico 0 7) fun t => Φ (.dma (agRecvS q (f7 t))))

/-- A semaphore of the list, by stream. -/
def semOf : Unit ⊕ (Fin 4 × (Fin 5 ⊕ Fin 7)) → Fin 49
  | .inl _ => num (.reg barS)
  | .inr (q, .inl i) => num ((![.reg (credS q), .dma (rsSendS q), .dma (rsRecvS q 0), .dma (rsRecvS q 1), .dma (agSendS q)] : Fin 5 → SemLoc sig) i)
  | .inr (q, .inr s) => num (.dma (agRecvS q s))
theorem semOf_bij : Function.Bijective semOf := by decide +kernel

theorem cells_split : (bigSep Finset.univ fun i : Fin 49 => Φ (csem i)) = iprop(Φ (.reg barS) ∗ all4 fun q => strm Φ q) := by
  rw [bigSep_univ_equiv (Equiv.ofBijective semOf semOf_bij), bigSep_univ_sum, bigSep_univ_prod, all4_eq]
  refine congrArg₂ _ ?_ (bigSep_congr fun q _ => ?_)
  · rw [bigSep_univ_eq_bigSepL [()] (by decide) (by decide)]
    show Φ (csem (num (.reg barS))) = _
    rw [csem_num on_bar]
  · rw [bigSep_univ_sum, bigSep_univ_eq_bigSepL [0, 1, 2, 3, 4] (by decide) (by decide), fin7]
    show iprop((Φ (csem (num (.reg (credS q)))) ∗ Φ (csem (num (.dma (rsSendS q)))) ∗ Φ (csem (num (.dma (rsRecvS q 0)))) ∗ Φ (csem (num (.dma (rsRecvS q 1))))
      ∗ Φ (csem (num (.dma (agSendS q))))) ∗ bigSep (Finset.Ico 0 7) fun t => Φ (csem (num (.dma (agRecvS q (f7 t)))))) = strm Φ q
    rw [csem_num (on_cr q), csem_num (on_rsS q), csem_num (on_rsR q 0), csem_num (on_rsR q 1), csem_num (on_agS q),
      bigSep_congr fun t _ => by rw [csem_num (on_agR q (f7 t))]]
    unfold strm
    exact sep_assoc5 _ _ _ _ _ _

/-- One stream's payments. -/
def paysS (q : Fin 4) : sProp 𝕄 :=
  iprop((bigSep (Finset.Ico 0 7) fun t => Θ (Pay.rs q (f7 t))) ∗ (bigSep (Finset.Ico 0 7) fun t => Θ (Pay.cr q (f7 t))) ∗ bigSep (Finset.Ico 0 7) fun t => Θ (Pay.ag q (f7 t)))

theorem pays_split : bigSep Finset.univ Θ = iprop((Θ (.inl false) ∗ Θ (.inl true)) ∗ all4 fun q => paysS Θ q) := by
  have e : (all4 fun q => paysS Θ q) = iprop((bigSep Finset.univ fun x => Θ (.inr (.inl x))) ∗ (bigSep Finset.univ fun x => Θ (.inr (.inr (.inl x))))
      ∗ bigSep Finset.univ fun x => Θ (.inr (.inr (.inr x)))) := by
    unfold paysS
    rw [all4_sep, all4_sep, all4_eq, all4_eq, all4_eq, bigSep_univ_prod, bigSep_univ_prod, bigSep_univ_prod]
    simp only [fin7]
  rw [bigSep_univ_sum, bigSep_univ_sum, bigSep_univ_sum, bigSep_univ_eq_bigSepL [false, true] (by decide) (by decide), e]
  rfl
end Families

/-! ## The start -/

/-- A stream's own duties: the returns of what it sends. -/
def ownT : sProp 𝕄 :=
  iprop((bigSep (Finset.Ico 0 7) fun t => dutyTok ER (rsSCell d q) t 0) ∗ bigSep (Finset.Ico 0 7) fun t => dutyTok ER (agSCell d q) t 0)
/-- The rights to write the receiver's slots. -/
def wtok : sProp 𝕄 := bigSep (Finset.Ico 0 7) fun t => writeTok EK (dest d q, q, parN t) (t / 2 + 1)
/-- The rights to take its own slots back at the end. -/
def keep : sProp 𝕄 := iprop(writeTok EK (d, q, parN 7) (7 / 2 + 1) ∗ writeTok EK (d, q, parN 8) (8 / 2 + 1))
/-- What a stream is dealt. -/
def linS : sProp 𝕄 :=
  iprop(strm (fun sm => atPos ER ((d : Thread nD τ), sm) 0 ∅ 0) q ∗ paysS (fun p => tok d p) q ∗ ownT d q ∗ (readerAt EK (d, q, 0) 0 ∗ readerAt EK (d, q, 1) 0) ∗ wtok d q ∗ keep d q)
/-- What a device is dealt. -/
def lin : sProp 𝕄 := iprop(atPos ER (barCell d) 0 ∅ 0 ∗ (tok d (.inl false) ∗ tok d (.inl true)) ∗ all4 fun q => linS d q)
/-- Its credits. -/
def creds : sProp 𝕄 := bigSep Finset.univ fun p : Pay => crd d p
/-- Its scratch memory. -/
def memS : sProp 𝕄 := iprop(anyPt (F := F) d (commM q) ∗ anyPt (F := F) d (stageM q))
def scr : sProp 𝕄 := iprop(anyPt (F := F) d gatM ∗ all4 fun q => memS (F := F) d q)

theorem slot_free (p : Fin 2) :
    iprop(ctx D K ∗ readerAt EK (d, q, p) 0 ∗ slotP (d, q, p)) ⊢ |={Set.univ}=> iprop(readerAt EK (d, q, p) 1 ∗ released EK (d, q, p) 1) := by
  iintro ⟨#Hc, Hr, Hs⟩
  iapply (slot_release EK (Set.mem_univ (K.slot (d, q, p))) (slot_excl (d, q, p)) 0)
  isplitr; · iapply (ctx_slot D K (d, q, p)); iexact Hc
  isplitl [Hr]; · iexact Hr
  iexact Hs

theorem entry_intro : iprop(fact (F := F) d q 0 ∗ fact (F := F) d q 1 ∗ bigSep (Finset.Ico 0 7) fun t => gA (F := F) d (agChunk d q (t + 1)) q)
    ⊢ entry (F := F) (orig d q) q := by
  obtain ⟨e, rfl⟩ : ∃ e, d = dest e q := ⟨orig d q, (dest_orig d q).symm⟩
  rw [orig_dest]
  unfold entry
  have h : (bigSep (Finset.Ico 0 7) fun t => gA (F := F) (dest e q) (agChunk (dest e q) q (t + 1)) q : sProp 𝕄)
      = bigSep (Finset.Ico 0 7) fun s => anyPt (F := F) (dest e q) (gatS (agChunk e q s) q) :=
    bigSep_congr fun t ht => by rw [show agChunk (dest e q) q (t + 1) = agChunk e q t from agChunk_dest e q ⟨t, (Finset.mem_Ico.mp ht).2⟩]; rfl
  rw [h]

theorem gat_rest : (bigSep (Finset.range 8) fun t => gA (F := F) d (agChunk d q t) q)
    ⊢ (iprop(gA (F := F) d (agChunk d q 0) q ∗ bigSep (Finset.Ico 0 7) fun t => gA (F := F) d (agChunk d q (t + 1)) q) : sProp 𝕄) := by
  rw [bigSep_eq_bigSepL_of_eq [0, 1, 2, 3, 4, 5, 6, 7] (by decide) (by decide), bigSep_eq_bigSepL_of_eq (S := Finset.Ico 0 7) [0, 1, 2, 3, 4, 5, 6] (by decide) (by decide)]
  exact BI.Entails.refl _

/-- What a stream is dealt at the start, arranged. -/
theorem stream_start :
    iprop(ctx D K ∗ linS d q ∗ paysS (fun p => crd d p) q ∗ memS (F := F) d q ∗ bigSep (Finset.range 8) fun t => gA (F := F) d (agChunk d q t) q)
      ⊢ |={Set.univ}=> iprop(entry (F := F) (orig d q) q ∗ strS (F := F) d q ∗ keep d q) := by
  have eIn : iprop((bigSep (Finset.Ico 0 7) fun t => crd d (Pay.rs q (f7 t))) ∗ bigSep (Finset.Ico 0 7) fun t => tok d (Pay.cr q (f7 t)))
      ⊢ (bigSep (Finset.Ico 0 7) (rsIn d q) : sProp 𝕄) := by unfold rsIn; rw [bigSep_sep']
  have eOut : iprop((bigSep (Finset.Ico 0 7) fun t => tok d (Pay.rs q (f7 t))) ∗ wtok d q ∗ bigSep (Finset.Ico 0 7) fun t => dutyTok ER (rsSCell d q) t 0)
      ⊢ (bigSep (Finset.Ico 0 7) (rsOut d q) : sProp 𝕄) := by unfold rsOut wtok; rw [bigSep_sep', bigSep_sep']
  have eAgIn : iprop((bigSep (Finset.Ico 0 7) fun t => crd d (Pay.ag q (f7 t))) ∗ bigSep (Finset.Ico 0 7) fun t => atPos ER (agRCell d q (f7 t)) 0 ∅ 0)
      ⊢ (bigSep (Finset.Ico 0 7) (agIn d q) : sProp 𝕄) := by unfold agIn; rw [bigSep_sep']
  have eAgTok : iprop((bigSep (Finset.Ico 0 7) fun t => tok d (Pay.ag q (f7 t))) ∗ bigSep (Finset.Ico 0 7) fun t => dutyTok ER (agSCell d q) t 0)
      ⊢ (bigSep (Finset.Ico 0 7) (agTok d q) : sProp 𝕄) := by unfold agTok; rw [bigSep_sep']
  have eCr : iprop(atPos ER (crCell d q) 0 ∅ 0 ∗ bigSep (Finset.Ico 0 7) fun t => crd d (Pay.cr q (f7 t))) ⊢ (crSt (F := F) d q 0 : sProp 𝕄) := by
    unfold crSt crAt
    iintro ⟨Ha, Hc⟩
    isplitl [Ha]
    · iexists (∅ : Finset ℕ)
      isplitr; · ipureintro; exact ⟨le_refl _, Finset.empty_subset _⟩
      isplitl [Ha]; · iexact Ha
      rw [bigSep_empty]; iempintro
    iexact Hc
  unfold linS strm paysS ownT memS
  iintro ⟨#Hc, ⟨⟨Hcr, HrsS, Hr0, Hr1, HagS, HagR⟩, ⟨Ttrs, Ttcr, Ttag⟩, ⟨Tors, Toag⟩, ⟨Hrd0, Hrd1⟩, Hw, Hk⟩, ⟨Crs, Ccr, Cag⟩, ⟨Hcomm, Hst⟩, Hg⟩
  ihave Hcomm := (comm_split d q) $$ Hcomm
  icases Hcomm with ⟨Hs0, Hs1⟩
  imod (slot_free D K d q 0) $$ [Hrd0 Hs0] with ⟨Hrd0, #Hf0⟩
  · isplitr; · iexact Hc
    isplitl [Hrd0]; · iexact Hrd0
    iexact Hs0
  imod (slot_free D K d q 1) $$ [Hrd1 Hs1] with ⟨Hrd1, #Hf1⟩
  · isplitr; · iexact Hc
    isplitl [Hrd1]; · iexact Hrd1
    iexact Hs1
  ihave Hg := (gat_rest d q) $$ Hg
  icases Hg with ⟨Hg0, Hg⟩
  imodintro
  isplitl [Hg]
  · iapply (entry_intro d q)
    isplitr
    · unfold fact
      isplitr; · iexact Hf0
      iapply (ctx_reached D K d (on_rsR q 0)); iexact Hc
    isplitr
    · unfold fact
      isplitr; · iexact Hf1
      iapply (ctx_reached D K d (on_rsR q 1)); iexact Hc
    iexact Hg
  isplitr [Hk]
  · unfold strS rsRest agRest
    isplitl [Hr0 Hrd0 Hr1 Hrd1 HrsS Crs Ttcr Ttrs Hw Tors Hcr Ccr]
    · isplitl [Hr0 Hrd0]
      · unfold hopAt
        isplitl [Hr0]; · iexact Hr0
        iexact Hrd0
      isplitl [Hr1 Hrd1]
      · unfold hopAt
        isplitl [Hr1]; · iexact Hr1
        iexact Hrd1
      isplitl [HrsS]; · iexact HrsS
      isplitl [Crs Ttcr]
      · iapply eIn
        isplitl [Crs]; · iexact Crs
        iexact Ttcr
      isplitl [Ttrs Hw Tors]
      · iapply eOut
        isplitl [Ttrs]; · iexact Ttrs
        isplitl [Hw]; · iexact Hw
        iexact Tors
      iapply eCr
      isplitl [Hcr]; · iexact Hcr
      iexact Ccr
    isplitr [Hst]
    · isplitl [Cag HagR]
      · iapply eAgIn
        isplitl [Cag]; · iexact Cag
        iexact HagR
      isplitl [Ttag Toag]
      · iapply eAgTok
        isplitl [Ttag]; · iexact Ttag
        iexact Toag
      isplitl [HagS]; · iexact HagS
      iexact Hg0
    iexact Hst
  iexact Hk

/-- An update of each stream is one of the four. -/
theorem all4_upd {R : sProp (MT nD τ sig ℕ (Elt F) ℕ UU ℕ)} [BI.Persistent R] {A B : Fin 4 → sProp (MT nD τ sig ℕ (Elt F) ℕ UU ℕ)}
    (h : ∀ q, iprop(R ∗ A q) ⊢ |={Set.univ}=> B q) : iprop(R ∗ all4 A) ⊢ |={Set.univ}=> all4 B := by
  unfold all4
  iintro ⟨#HR, H0, H1, H2, H3⟩
  imod (h 0) $$ [H0] with H0
  · isplitr; · iexact HR
    iexact H0
  imod (h 1) $$ [H1] with H1
  · isplitr; · iexact HR
    iexact H1
  imod (h 2) $$ [H2] with H2
  · isplitr; · iexact HR
    iexact H2
  imod (h 3) $$ [H3] with H3
  · isplitr; · iexact HR
    iexact H3
  imodintro
  isplitl [H0]; · iexact H0
  isplitl [H1]; · iexact H1
  isplitl [H2]; · iexact H2
  iexact H3

theorem orig_lr : ∀ d : Dev nD, orig d 0 = left d ∧ orig d 1 = left d ∧ orig d 2 = right d ∧ orig d 3 = right d := by decide +kernel

/-- What a device is dealt at the start, arranged. -/
theorem device_start :
    iprop(ctx D K ∗ lin (F := F) d ∗ creds d ∗ scr (F := F) d)
      ⊢ |={Set.univ}=> iprop(meet (F := F) d ∗ (all4 fun q => strS (F := F) d q) ∗ all4 fun q => keep d q) := by
  unfold lin creds scr
  rw [pays_split]
  iintro ⟨#Hc, ⟨Hbar, ⟨Ht0, Ht1⟩, Hlin⟩, ⟨⟨Hc0, Hc1⟩, Hcr⟩, Hg, Hm⟩
  ihave Hg := (gat_start d) $$ Hg
  imod (all4_upd (R := ctx D K) fun q => stream_start D K d q) $$ [Hlin Hcr Hg Hm] with H
  · isplitr; · iexact Hc
    rw [all4_sep, all4_sep, all4_sep]
    isplitl [Hlin]; · iexact Hlin
    isplitl [Hcr]; · iexact Hcr
    isplitl [Hm]; · iexact Hm
    iexact Hg
  ihave H := (Entails.of_eq (all4_sep _ _)) $$ H
  icases H with ⟨He, H⟩
  ihave H := (Entails.of_eq (all4_sep _ _)) $$ H
  icases H with ⟨Hs, Hk⟩
  have e : (all4 fun q => entry (F := F) (orig d q) q) ⊢ (iprop(entry (F := F) (left d) 0 ∗ entry (F := F) (left d) 1 ∗ entry (F := F) (right d) 2 ∗ entry (F := F) (right d) 3) : sProp 𝕄) := by
    show iprop(entry (F := F) (orig d 0) 0 ∗ entry (F := F) (orig d 1) 1 ∗ entry (F := F) (orig d 2) 2 ∗ entry (F := F) (orig d 3) 3) ⊢ _
    rw [(orig_lr d).1, (orig_lr d).2.1, (orig_lr d).2.2.1, (orig_lr d).2.2.2]
  ihave He := e $$ He
  icases He with ⟨H0, H1, H2, H3⟩
  imodintro
  isplitr [Hs Hk]
  · unfold meet
    isplitl [Ht0]; · iexact Ht0
    isplitl [Ht1]; · iexact Ht1
    isplitl [H0]; · iexact H0
    isplitl [H1]; · iexact H1
    isplitl [H2]; · iexact H2
    isplitl [H3]; · iexact H3
    isplitl [Hc0]; · iexact Hc0
    isplitl [Hc1]; · iexact Hc1
    iexact Hbar
  isplitl [Hs]; · iexact Hs
  iexact Hk

/-! ## The end -/

/-- The round after a semaphore's last. -/
def endOf : Use → ℕ
  | .off => 0
  | .bar => 1
  | .cr _ => 1
  | .rsS _ => 7
  | .rsR _ p => 4 - p.val
  | .agS _ => 7
  | .agR _ _ => 1
theorem dut_end (u : Use) (r : ℕ) (h : endOf u ≤ r) : dutOf u r = ∅ := by
  cases u with
  | off => rfl
  | bar => exact if_neg (by have : 1 ≤ r := h; omega)
  | cr q => exact if_neg (by have : 1 ≤ r := h; omega)
  | rsS q => exact if_neg (by have : 7 ≤ r := h; omega)
  | rsR q p => exact if_neg (by have : 4 - p.val ≤ r := h; omega)
  | agS q => exact if_neg (by have : 7 ≤ r := h; omega)
  | agR q s => exact if_neg (by have : 1 ≤ r := h; omega)

/-- A cell at its end. -/
def atEnd (sm : SemLoc sig) : sProp 𝕄 := atPos ER ((d : Thread nD τ), sm) (endOf (use sm)) ∅ 0

theorem close_all : iprop(ctx D K ∗ bigSep Finset.univ fun i : Fin 49 => atEnd d (csem i))
    ⊢ |={Set.univ}=> (bigSep Finset.univ fun i : Fin 49 => semVal (kcell (d, i)) 0) := by
  have h : ∀ i : Fin 49, iprop(ctx D K ∗ atEnd d (csem i)) ⊢ iprop(cellInv ER (Rd D) (K.cell (d, i)) (kcell (d, i)) ∗ atPos ER (kcell (d, i)) (endOf (use (csem i))) ∅ 0) := fun i => by
    unfold atEnd
    iintro ⟨#Hc, Ha⟩
    isplitr
    · unfold ctx
      icases Hc with ⟨#HI, -, -, -⟩
      iapply (bigSep_at (fun x : Dev nD × Fin 49 => cellInv ER (Rd D) (K.cell x) (kcell x)) (d, i)); iexact HI
    iexact Ha
  have h' : iprop(ctx D K ∗ bigSep Finset.univ fun i : Fin 49 => atEnd d (csem i))
      ⊢ bigSep Finset.univ fun i : Fin 49 => iprop(cellInv ER (Rd D) (K.cell (d, i)) (kcell (d, i)) ∗ atPos ER (kcell (d, i)) (endOf (use (csem i))) ∅ 0) :=
    (sep_mono_left (BI.bigSep_of_persistent _ _)).trans (by rw [← bigSep_sep']; exact bigSep_mono fun i _ => h i)
  exact h'.trans (Rounds.cells_close ER (Rd D) Finset.univ (fun i : Fin 49 => kcell (d, i)) (fun i => K.cell (d, i)) (fun _ _ => Set.mem_univ _) (fun _ _ h => h)
    (fun i => endOf (use (csem i))) (fun i _ r hr => (dut_at D d (rfl : use (csem i) = _) r).trans (dut_end _ r hr)))

theorem slot_back (k : Key) (n : ℕ) : iprop(ctx D K ∗ released EK k n ∗ writeTok EK k n) ⊢ |={Set.univ}=> slotP k := by
  iintro ⟨#Hc, #Hr, Hw⟩
  iapply (slot_take EK (Set.mem_univ (K.slot k)) n)
  isplitr; · iapply (ctx_slot D K k); iexact Hc
  isplitr; · iexact Hr
  iexact Hw

/-- What a stream ends with, arranged. -/
theorem stream_end :
    iprop(ctx D K ∗ rsFin (F := F) d q ∗ agEnd D d q ∗ keep d q)
      ⊢ |={Set.univ}=> iprop(strm (atEnd d) q ∗ memS (F := F) d q ∗ (bigSep (Finset.range 8) fun t => gP D d (agChunk d q t) q fullShare) ∗ outs D d q 8) := by
  have eR : (bigSep (Finset.range 7) fun t => atPos ER (agRCell d q (f7 t)) 1 ∅ 0)
      ⊢ (bigSep (Finset.Ico 0 7) fun t => atPos ER (agRCell d q (f7 t)) (endOf (use (.dma (agRecvS q (f7 t))))) ∅ 0 : sProp 𝕄) := by
    rw [← Finset.range_eq_Ico]
    exact Entails.of_eq (bigSep_congr fun t _ => by rw [use_agR]; rfl)
  unfold rsFin agEnd keep hopAt
  iintro ⟨#Hc, ⟨⟨Hr1, -⟩, ⟨Hr0, -⟩, HrsS, Hst, Hcr, #Hf⟩, ⟨HagR, HagS, Hg, Ho⟩, Hk1, Hk0⟩
  ihave Hf5 := (facts_elim (F := F) q d (i := 5) (n := 7) (by decide)) $$ Hf
  ihave Hf6 := (facts_elim (F := F) q d (i := 6) (n := 7) (by decide)) $$ Hf
  unfold fact
  icases Hf5 with ⟨#Hf5, -⟩
  icases Hf6 with ⟨#Hf6, -⟩
  imod (slot_back D K (d, q, parN 7) (7 / 2 + 1)) $$ [Hk1] with Hs1
  · isplitr; · iexact Hc
    isplitr; · iexact Hf5
    iexact Hk1
  imod (slot_back D K (d, q, parN 8) (8 / 2 + 1)) $$ [Hk0] with Hs0
  · isplitr; · iexact Hc
    isplitr; · iexact Hf6
    iexact Hk0
  imodintro
  isplitr [Hs0 Hs1 Hst Hg Ho]
  · unfold strm atEnd
    rw [use_cr, use_rsS, use_rsR, use_rsR, use_agS]
    isplitl [Hcr]; · iexact Hcr
    isplitl [HrsS]; · iexact HrsS
    isplitl [Hr0]; · iexact Hr0
    isplitl [Hr1]; · iexact Hr1
    isplitl [HagS]; · iexact HagS
    iapply eR; iexact HagR
  isplitl [Hs0 Hs1 Hst]
  · unfold memS
    isplitl [Hs0 Hs1]
    · iapply (comm_join d q)
      isplitl [Hs0]; · iexact Hs0
      iexact Hs1
    iexact Hst
  isplitl [Hg]; · iexact Hg
  iexact Ho

/-- What a device ends with, arranged. -/
theorem device_end :
    iprop(ctx D K ∗ atPos ER (barCell d) 1 ∅ 0 ∗ (all4 fun q => rsFin (F := F) d q) ∗ (all4 fun q => agEnd D d q) ∗ all4 fun q => keep d q)
      ⊢ |={Set.univ}=> iprop((bigSep Finset.univ fun i : Fin 49 => semVal (kcell (d, i)) 0) ∗ scr (F := F) d ∗ pt (F := F) d outM fullShare (outC D d)) := by
  iintro ⟨#Hc, Hbar, Hr, Ha, Hk⟩
  imod (all4_upd (R := ctx D K) fun q => stream_end D K d q) $$ [Hr Ha Hk] with H
  · isplitr; · iexact Hc
    rw [all4_sep, all4_sep]
    isplitl [Hr]; · iexact Hr
    isplitl [Ha]; · iexact Ha
    iexact Hk
  ihave H := (Entails.of_eq (all4_sep _ _)) $$ H
  icases H with ⟨Hs, H⟩
  ihave H := (Entails.of_eq (all4_sep _ _)) $$ H
  icases H with ⟨Hm, H⟩
  ihave H := (Entails.of_eq (all4_sep _ _)) $$ H
  icases H with ⟨Hg, Ho⟩
  imod (close_all D K d) $$ [Hbar Hs] with Hv
  · isplitr; · iexact Hc
    rw [cells_split]
    isplitl [Hbar]; · unfold atEnd; rw [use_bar]; iexact Hbar
    iexact Hs
  imodintro
  isplitl [Hv]; · iexact Hv
  isplitl [Hg Hm]
  · unfold scr
    isplitl [Hg]; · iapply (gat_end D d); iexact Hg
    iexact Hm
  iapply (out_end D d); iexact Ho

end Cert.KernelIdeal.Mesh

end
-- ==== Proof.Mesh.Fund.lean ====
/- The launch: the protocol state funded, dealt to the devices, and the credits each device waits with. -/
module

public import proofs.«01_k».proof.Proof.Mesh.Deal
public import proofs.«01_k».proof.Proof.Gen.KernelIdeal.Frame
public import Idealize.ShloMosaic.Lib.SparseCore.Launch

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (D : Data F) (K : Names)
variable (d : Dev nD) (q : Fin 4) (k : P F) (Ψ : PUnit.{1} → sProp (MT nD τ sig ℕ (Elt F) ℕ UU ℕ))

/-! ## What is minted -/

theorem kcell_inj : Function.Injective kcell := by
  rintro ⟨c, i⟩ ⟨c', i'⟩ h
  have h1 : c = c' := congrArg (fun g : GSem nD τ sig => g.1.1) h
  have h2 : csem i = csem i' := congrArg Prod.snd h
  rw [h1, csem_inj h2]
def cells : Finset (GSem nD τ sig) := Finset.univ.map ⟨kcell, kcell_inj⟩

/-- A device's duties as minted: one for each payment made to it, and its own. -/
abbrev Tk : Type := Pay ⊕ (Bool × Fin 4 × Fin 7)
def tkOf : Tk → SemLoc sig × ℕ × ℕ
  | .inl p => (paySem p, payRound p, payDuty p)
  | .inr (b, q, s) => (.dma (if b then agSendS q else rsSendS q), s.val, 0)
/-- A duty as numbers. -/
def tkNum (t : Tk) : ℕ × ℕ × ℕ := ((num (tkOf t).1).val, (tkOf t).2)
instance decPay : DecidableEq Pay := instDecidableEqSum
instance decTk : DecidableEq Tk := instDecidableEqSum
theorem tkNum_inj : ∀ a b : Tk, tkNum a = tkNum b → a = b := by decide +kernel
theorem tkOf_inj (a b : Tk) (h : tkOf a = tkOf b) : a = b := tkNum_inj a b (by unfold tkNum; rw [h])
def tokOf (x : Dev nD × Tk) : GSem nD τ sig × ℕ × ℕ := (((x.1 : Thread nD τ), (tkOf x.2).1), (tkOf x.2).2)
theorem tokOf_inj : Function.Injective tokOf := by
  rintro ⟨c, t⟩ ⟨c', t'⟩ h
  have h1 : c = c' := congrArg (fun x : GSem nD τ sig × ℕ × ℕ => x.1.1.1) h
  have h2 : (tkOf t).1 = (tkOf t').1 := congrArg (fun x : GSem nD τ sig × ℕ × ℕ => x.1.2) h
  have h3 : (tkOf t).2 = (tkOf t').2 := congrArg (fun x : GSem nD τ sig × ℕ × ℕ => x.2) h
  rw [h1, tkOf_inj t t' (Prod.ext h2 h3)]
def toks : Finset (GSem nD τ sig × ℕ × ℕ) := Finset.univ.map ⟨tokOf, tokOf_inj⟩

/-- The launch's state. -/
def u₀ : UU := (initOf (Pipeline.cells cfgs cellOf_inj) (Pipeline.launchToks cfgs cellOf_inj), (initOf cells toks, initSlots Finset.univ 5))

/-- The slots' state, held by the first device. -/
def slots0 : sProp 𝕄 := if d = 0 then BI.own (EK (F := F) (initSlots Finset.univ 5)) else iprop(emp)
/-- The duties minted for a device. -/
def dtoks : sProp 𝕄 := bigSep Finset.univ fun t : Tk => dutyTok ER (tokOf (d, t)).1 (tokOf (d, t)).2.1 (tokOf (d, t)).2.2
/-- What the launch deals a device. -/
def G : sProp 𝕄 :=
  iprop((bigSep Finset.univ fun i : Fin 49 => roundState ER (Rd D) (kcell (d, i)) 0)
    ∗ (bigSep Finset.univ fun i : Fin 49 => atPos ER (kcell (d, i)) 0 ∅ 0) ∗ (bigSep Finset.univ fun i : Fin 49 => reached ER (kcell (d, i)) 0)
    ∗ dtoks (F := F) d ∗ slots0 (F := F) d)

theorem over_cells (Φ : GSem nD τ sig → sProp (MT nD τ sig ℕ (Elt F) ℕ UU ℕ)) :
    bigSep cells Φ = bigSep Finset.univ fun c : Dev nD => bigSep Finset.univ fun i : Fin 49 => Φ (kcell (c, i)) := by
  unfold cells; rw [bigSep_map, bigSep_univ_prod]; rfl
theorem over_toks : bigSep toks (fun x => (dutyTok ER x.1 x.2.1 x.2.2 : sProp 𝕄)) = bigSep Finset.univ fun c : Dev nD => dtoks (F := F) c := by
  unfold toks; rw [bigSep_map, bigSep_univ_prod]; rfl
theorem over_slots : BI.own (EK (F := F) (initSlots Finset.univ 5)) ⊢ (bigSep Finset.univ fun c : Dev nD => slots0 (F := F) c) := by
  rw [bigSep_univ_at _ (0 : Dev nD)]
  have h : BI.own (EK (F := F) (initSlots Finset.univ 5)) ⊢ iprop(slots0 (F := F) 0 ∗ (bigSep (Finset.univ.erase (0 : Dev nD)) fun c => slots0 (F := F) c)) := by
    rw [bigSep_congr fun c hc => show slots0 (F := F) c = iprop(emp) from if_neg (Finset.ne_of_mem_erase hc)]
    have e : (slots0 (F := F) 0 : sProp 𝕄) = BI.own (EK (F := F) (initSlots Finset.univ 5)) := if_pos rfl
    rw [e]
    iintro H
    isplitl [H]; · iexact H
    iapply (show (iprop(emp) : sProp 𝕄) ⊢ bigSep (Finset.univ.erase (0 : Dev nD)) fun _ => iprop(emp) from BI.bigSep_of_persistent _ _)
    iempintro
  exact h

theorem fund_all : ownU u₀ ⊢ |={Set.univ}=> iprop(BI.own (EP (F := F) (initOf (Pipeline.cells cfgs cellOf_inj) (Pipeline.launchToks cfgs cellOf_inj))) ∗ bigSep Finset.univ (G D)) := by
  unfold u₀
  iintro Hu
  ihave H := (ownU_pair _ _) $$ Hu
  icases H with ⟨HP, HX⟩
  ihave H := (own_pair_emb (EC (F := F)) _ _) $$ HX
  icases H with ⟨HR, HK⟩
  imod (Rounds.fund ER (Rd D) cells toks) $$ HR with ⟨Hst, Hr, Hat, Htok⟩
  imodintro
  isplitl [HP]; · iexact HP
  unfold G
  rw [bigSep_sep', bigSep_sep', bigSep_sep', bigSep_sep']
  isplitl [Hst]; · iapply (Entails.of_eq (over_cells fun g => roundState ER (Rd D) g 0)); iexact Hst
  isplitl [Hat]; · iapply (Entails.of_eq (over_cells fun g => atPos ER g 0 ∅ 0)); iexact Hat
  isplitl [Hr]; · iapply (Entails.of_eq (over_cells fun g => reached ER g 0)); iexact Hr
  isplitl [Htok]; · iapply (Entails.of_eq over_toks); iexact Htok
  iapply over_slots; iexact HK

/-! ## Dealt to the payers -/

/-- Payments, moved from the paid to the payer. -/
def around : Dev nD × Pay ≃ Dev nD × Pay :=
  ⟨fun x => (payTo x.1 x.2, x.2), fun x => (payBy x.1 x.2, x.2), fun x => Prod.ext (payBy_payTo x.2 x.1) rfl, fun x => Prod.ext (payTo_payBy x.2 x.1) rfl⟩
/-- Streams, moved from the receiver to the sender. -/
def aroundS : Dev nD × Fin 4 ≃ Dev nD × Fin 4 :=
  ⟨fun x => (dest x.1 x.2, x.2), fun x => (orig x.1 x.2, x.2), fun x => Prod.ext (orig_dest x.1 x.2) rfl, fun x => Prod.ext (dest_orig x.1 x.2) rfl⟩

theorem toks_dealt : (bigSep Finset.univ fun c : Dev nD => dtoks (F := F) c)
    = (bigSep Finset.univ fun c : Dev nD => iprop((bigSep Finset.univ fun p : Pay => tok c p) ∗ all4 fun q => ownT c q) : sProp 𝕄) := by
  have h : ∀ c : Dev nD, dtoks (F := F) c = iprop((bigSep Finset.univ fun p : Pay => dutyTok ER (payCell c p) (payRound p) (payDuty p)) ∗ all4 fun q => ownT c q) := fun c => by
    unfold dtoks
    rw [bigSep_univ_sum, bigSep_univ_prod]
    refine congrArg₂ _ rfl ?_
    unfold ownT
    rw [all4_sep, all4_eq, all4_eq, bigSep_univ_eq_bigSepL [false, true] (by decide) (by decide)]
    show iprop(bigSep Finset.univ _ ∗ bigSep Finset.univ _) = _
    rw [bigSep_univ_prod, bigSep_univ_prod]
    simp only [fin7]
    refine congrArg₂ _ (bigSep_congr fun q _ => bigSep_congr fun t ht => ?_) (bigSep_congr fun q _ => bigSep_congr fun t ht => ?_) <;>
    · have e : (f7 t).val = t := Nat.mod_eq_of_lt (Finset.mem_Ico.mp ht).2
      show dutyTok ER _ (f7 t).val 0 = _
      rw [e]
      rfl
  rw [bigSep_congr fun c _ => h c, bigSep_sep', bigSep_sep', ← bigSep_univ_prod (fun x : Dev nD × Pay => dutyTok ER (payCell x.1 x.2) (payRound x.2) (payDuty x.2)),
    bigSep_univ_equiv around, bigSep_univ_prod]
  rfl

theorem fin9 (A : Fin 9 → sProp (MT nD τ sig ℕ (Elt F) ℕ UU ℕ)) (B : ℕ → sProp (MT nD τ sig ℕ (Elt F) ℕ UU ℕ)) (h : ∀ t, A t = B t.val) :
    bigSep Finset.univ A ⊢ iprop((bigSep (Finset.Ico 0 7) fun t => B t) ∗ B 7 ∗ B 8) := by
  rw [bigSep_congr fun t _ => h t, bigSep_univ_eq_bigSepL [0, 1, 2, 3, 4, 5, 6, 7, 8] (by decide) (by decide), bigSep_eq_bigSepL_of_eq (S := Finset.Ico 0 7) [0, 1, 2, 3, 4, 5, 6] (by decide) (by decide)]
  have e : iprop(B 0 ∗ B 1 ∗ B 2 ∗ B 3 ∗ B 4 ∗ B 5 ∗ B 6 ∗ B 7 ∗ B 8) ⊢ iprop((B 0 ∗ B 1 ∗ B 2 ∗ B 3 ∗ B 4 ∗ B 5 ∗ B 6) ∗ B 7 ∗ B 8) := by
    iintro ⟨H0, H1, H2, H3, H4, H5, H6, H7, H8⟩
    isplitr [H7 H8]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    iexact H8
  exact e

/-- A slot and a write to it, by hop. -/
def wKey (x : (Dev nD × Fin 4) × Fin 9) : Key × ℕ := ((x.1.1, x.1.2, parN x.2.val), x.2.val / 2)
theorem wKey_inj : Function.Injective wKey := by
  rintro ⟨⟨c, q⟩, t⟩ ⟨⟨c', q'⟩, t'⟩ h
  have h1 : c = c' := congrArg (fun x : Key × ℕ => x.1.1) h
  have h2 : q = q' := congrArg (fun x : Key × ℕ => x.1.2.1) h
  have h3 : parN t.val = parN t'.val := congrArg (fun x : Key × ℕ => x.1.2.2) h
  have h4 : t.val / 2 = t'.val / 2 := congrArg (fun x : Key × ℕ => x.2) h
  have h5 : t.val = t'.val := by rw [← two_div t.val, ← two_div t'.val, h3, h4]
  rw [h1, h2, Fin.ext h5]

theorem writes_dealt : bigSep (Finset.univ ×ˢ Finset.range 5) (fun x : Key × ℕ => writeTok EK x.1 (x.2 + 1))
    ⊢ (bigSep Finset.univ fun c : Dev nD => iprop((all4 fun q => wtok c q) ∗ all4 fun q => keep c q) : sProp 𝕄) := by
  have hs : Finset.univ.map ⟨wKey, wKey_inj⟩ ⊆ (Finset.univ ×ˢ Finset.range 5 : Finset (Key × ℕ)) := fun y hy => by
    obtain ⟨x, -, rfl⟩ := Finset.mem_map.mp hy
    exact Finset.mem_product.mpr ⟨Finset.mem_univ _, Finset.mem_range.mpr (by have := x.2.isLt; show x.2.val / 2 < 5; omega)⟩
  have hw : ∀ c : Dev nD × Fin 4, (bigSep Finset.univ fun t : Fin 9 => writeTok EK (wKey (c, t)).1 ((wKey (c, t)).2 + 1))
      ⊢ (iprop((bigSep (Finset.Ico 0 7) fun t => writeTok EK (c.1, c.2, parN t) (t / 2 + 1)) ∗ keep c.1 c.2) : sProp 𝕄) := fun c =>
    fin9 _ (fun t => writeTok EK (c.1, c.2, parN t) (t / 2 + 1)) fun t => rfl
  refine (bigSep_subset hs).trans ?_
  rw [bigSep_map, bigSep_univ_prod]
  refine (bigSep_mono fun c _ => hw c).trans ?_
  rw [bigSep_sep', bigSep_sep', bigSep_univ_equiv aroundS (fun c : Dev nD × Fin 4 => bigSep (Finset.Ico 0 7) fun t => writeTok EK (c.1, c.2, parN t) (t / 2 + 1)), bigSep_univ_prod, bigSep_univ_prod]
  simp only [all4_eq]
  exact BI.Entails.refl _

theorem readers_dealt : bigSep Finset.univ (fun k : Key => readerAt EK k 0)
    = (bigSep Finset.univ fun c : Dev nD => all4 fun q => iprop(readerAt EK (c, q, 0) 0 ∗ readerAt EK (c, q, 1) 0) : sProp 𝕄) := by
  rw [bigSep_univ_prod]
  refine bigSep_congr fun c _ => ?_
  rw [bigSep_univ_prod, all4_eq]
  exact bigSep_congr fun q _ => by rw [bigSep_univ_eq_bigSepL [0, 1] (by decide) (by decide)]; rfl

/-- What a device is dealt, from the parts. -/
theorem lin_intro :
    iprop((bigSep Finset.univ fun i : Fin 49 => atPos ER (kcell (d, i)) 0 ∅ 0) ∗ ((bigSep Finset.univ fun p : Pay => tok d p) ∗ all4 fun q => ownT d q)
      ∗ (all4 fun q => iprop(readerAt EK (d, q, 0) 0 ∗ readerAt EK (d, q, 1) 0)) ∗ (all4 fun q => wtok d q) ∗ all4 fun q => keep d q)
      ⊢ (lin (F := F) d : sProp 𝕄) := by
  unfold lin linS
  rw [all4_sep, all4_sep, all4_sep, all4_sep, all4_sep, all4_sep, all4_sep, pays_split,
    show (bigSep Finset.univ fun i : Fin 49 => (atPos ER (kcell (d, i)) 0 ∅ 0 : sProp 𝕄)) = _ from cells_split fun sm => atPos ER ((d : Thread nD τ), sm) 0 ∅ 0]
  iintro ⟨⟨Hbar, Hs⟩, ⟨⟨Ht, Hp⟩, Ho⟩, Hr, Hw, Hk⟩
  isplitl [Hbar]; · iexact Hbar
  isplitl [Ht]; · iexact Ht
  isplitl [Hs]; · iexact Hs
  isplitl [Hp]; · iexact Hp
  isplitl [Ho]; · iexact Ho
  isplitl [Hr]; · iexact Hr
  isplitl [Hw]; · iexact Hw
  iexact Hk

theorem lin_all :
    iprop((bigSep Finset.univ fun c : Dev nD => bigSep Finset.univ fun i : Fin 49 => atPos ER (kcell (c, i)) 0 ∅ 0)
      ∗ (bigSep Finset.univ fun c : Dev nD => iprop((bigSep Finset.univ fun p : Pay => tok c p) ∗ all4 fun q => ownT c q))
      ∗ (bigSep Finset.univ fun c : Dev nD => all4 fun q => iprop(readerAt EK (c, q, 0) 0 ∗ readerAt EK (c, q, 1) 0))
      ∗ (bigSep Finset.univ fun c : Dev nD => iprop((all4 fun q => wtok c q) ∗ all4 fun q => keep c q)))
      ⊢ (bigSep Finset.univ fun c : Dev nD => lin (F := F) c : sProp 𝕄) := by
  rw [← bigSep_sep', ← bigSep_sep', ← bigSep_sep']
  exact bigSep_mono fun c _ => lin_intro c

/-! ## The invariants -/

/-- What every device knows, but for the levels. -/
def ctx0 : sProp 𝕄 :=
  iprop((bigSep Finset.univ fun x : Dev nD × Fin 49 => cellInv ER (Rd D) (K.cell x) (kcell x))
    ∗ (bigSep Finset.univ fun x : Dev nD × Fin 49 => reached ER (kcell x) 0)
    ∗ (bigSep Finset.univ fun k : Key => slotInv EK (K.slot k) k (slotP k)))
instance ctx0_persistent : BI.Persistent (ctx0 D K) := by unfold ctx0; infer_instance
theorem ctx_intro : iprop(ctx0 D K ∗ levAts L lv) ⊢ ctx D K := by
  unfold ctx0 ctx
  iintro ⟨⟨H1, H2, H3⟩, H4⟩
  isplitl [H1]; · iexact H1
  isplitl [H2]; · iexact H2
  isplitl [H3]; · iexact H3
  iexact H4

/-- What a device starts from. -/
def G' : sProp 𝕄 := iprop(∃ K, ctx0 D K ∗ lin (F := F) d)

/-- The kernel's own semaphores: all but the barrier's. -/
def osem (i : Fin 48) : SemLoc sig := csem ((4 : Fin 49).succAbove i)
def semCase : Unit ⊕ Fin 48 → Fin 49
  | .inl _ => 4
  | .inr i => (4 : Fin 49).succAbove i
theorem semCase_bij : Function.Bijective semCase := by decide +kernel
theorem csem_four : csem 4 = .reg barS := by decide +kernel

theorem own_split (Φ : SemLoc sig → sProp (MT nD τ sig ℕ (Elt F) ℕ UU ℕ)) :
    (bigSep Finset.univ fun i : Fin 49 => Φ (csem i)) = iprop(Φ (.reg barS) ∗ bigSep Finset.univ fun i : Fin 48 => Φ (osem i)) := by
  rw [bigSep_univ_equiv (Equiv.ofBijective semCase semCase_bij), bigSep_univ_sum]
  refine congrArg₂ _ ?_ rfl
  rw [bigSep_univ_eq_bigSepL [()] (by decide) (by decide)]
  show Φ (csem 4) = _
  rw [csem_four]

theorem unscoped_eq : (unscopedSems0 d : sProp 𝕄) = semVal (barCell d) 0 := by
  unfold unscopedSems0; rw [bigSep_eq_bigSepL_of_eq [SemLoc.reg barS] (by decide) (by decide)]; rfl
theorem sems_eq : (bigSep Finset.univ fun i : Fin 49 => semVal (kcell (d, i)) 0)
    = (iprop(unscopedSems0 d ∗ Pipeline.ownSems0 (Ix := ℕ) (Name := ℕ) (U := UU) (Lvl := ℕ) (Val := Elt F) (τ := τ) osem d) : sProp 𝕄) := by
  rw [unscoped_eq]
  exact own_split fun sm => semVal ((d : Thread nD τ), sm) 0

theorem device_alloc :
    iprop(Pipeline.ownSems0 (Ix := ℕ) (Name := ℕ) (U := UU) (Lvl := ℕ) (Val := Elt F) (τ := τ) osem d ∗ unscopedSems0 d ∗ G D d)
      ⊢ |={Set.univ}=> iprop((bigSep Finset.univ fun i : Fin 49 => iprop(∃ κ : ℕ, cellInv ER (Rd D) κ (kcell (d, i))))
        ∗ (bigSep Finset.univ fun i : Fin 49 => atPos ER (kcell (d, i)) 0 ∅ 0) ∗ (bigSep Finset.univ fun i : Fin 49 => reached ER (kcell (d, i)) 0)
        ∗ dtoks (F := F) d ∗ slots0 (F := F) d) := by
  have h : iprop((bigSep Finset.univ fun i : Fin 49 => semVal (kcell (d, i)) 0) ∗ bigSep Finset.univ fun i : Fin 49 => roundState ER (Rd D) (kcell (d, i)) 0)
      ⊢ (|={Set.univ}=> bigSep Finset.univ fun i : Fin 49 => iprop(∃ κ : ℕ, cellInv ER (Rd D) κ (kcell (d, i))) : sProp 𝕄) := by
    rw [← bigSep_sep']
    exact (bigSep_mono fun i _ => (Rounds.body_intro ER (Rd D) (kcell (d, i))).trans inv_alloc).trans (bigSep_fupd _ _)
  unfold G
  iintro ⟨Ho, Hu, Hst, Hat, Hr, Ht, Hs⟩
  imod h $$ [Ho Hu Hst] with HI
  · isplitl [Ho Hu]
    · rw [sems_eq]
      isplitl [Hu]; · iexact Hu
      iexact Ho
    iexact Hst
  imodintro
  isplitl [HI]; · iexact HI
  isplitl [Hat]; · iexact Hat
  isplitl [Hr]; · iexact Hr
  isplitl [Ht]; · iexact Ht
  iexact Hs

theorem with_persistent {I : Type} [DecidableEq I] {S : Finset I} {R : sProp (MT nD τ sig ℕ (Elt F) ℕ UU ℕ)} [BI.Persistent R] {Φ Ψ : I → sProp (MT nD τ sig ℕ (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem slots_alloc : BI.own (EK (F := F) (initSlots Finset.univ 5)) ⊢ |={Set.univ}=> iprop(∃ ιs : Key → ℕ, (bigSep Finset.univ fun k => slotInv EK (ιs k) k (slotP k))
    ∗ (bigSep Finset.univ fun k : Key => readerAt EK k 0) ∗ bigSep (Finset.univ ×ˢ Finset.range 5) fun x : Key × ℕ => writeTok EK x.1 (x.2 + 1)) := by
  iintro H
  imod (slots_init EK Finset.univ 5 (fun k : Key => (slotP k : sProp 𝕄))) $$ H with ⟨%ιs, -, H⟩
  imodintro
  iexists ιs
  iexact H

theorem glob : (bigSep Finset.univ fun c => iprop(Pipeline.ownSems0 (Ix := ℕ) (Name := ℕ) (U := UU) (Lvl := ℕ) (Val := Elt F) (τ := τ) osem c ∗ unscopedSems0 c ∗ G D c))
    ⊢ |={Set.univ}=> bigSep Finset.univ (G' D) := by
  have h : (bigSep Finset.univ fun c => iprop(Pipeline.ownSems0 (Ix := ℕ) (Name := ℕ) (U := UU) (Lvl := ℕ) (Val := Elt F) (τ := τ) osem c ∗ unscopedSems0 c ∗ G D c))
      ⊢ (|={Set.univ}=> iprop((bigSep Finset.univ fun x : Dev nD × Fin 49 => iprop(∃ κ : ℕ, cellInv ER (Rd D) κ (kcell x)))
        ∗ (bigSep Finset.univ fun c : Dev nD => bigSep Finset.univ fun i : Fin 49 => atPos ER (kcell (c, i)) 0 ∅ 0)
        ∗ (bigSep Finset.univ fun c : Dev nD => bigSep Finset.univ fun i : Fin 49 => reached ER (kcell (c, i)) 0)
        ∗ (bigSep Finset.univ fun c : Dev nD => iprop((bigSep Finset.univ fun p : Pay => tok c p) ∗ all4 fun q => ownT c q))
        ∗ bigSep Finset.univ fun c : Dev nD => slots0 (F := F) c) : sProp 𝕄) := by
    have h := (bigSep_mono (s := Finset.univ) fun (c : Dev nD) _ => device_alloc D c).trans (bigSep_fupd _ _)
    rw [← toks_dealt, bigSep_univ_prod (fun x : Dev nD × Fin 49 => iprop(∃ κ : ℕ, cellInv ER (Rd D) κ (kcell x))), ← bigSep_sep', ← bigSep_sep', ← bigSep_sep', ← bigSep_sep']
    exact h
  have hr := Entails.of_eq (bigSep_univ_prod (fun x : Dev nD × Fin 49 => (reached ER (kcell x) 0 : sProp 𝕄))).symm
  have hs : (bigSep Finset.univ fun c : Dev nD => slots0 (F := F) c) ⊢ (BI.own (EK (F := F) (initSlots Finset.univ 5)) : sProp 𝕄) :=
    (bigSep_at _ (0 : Dev nD)).trans (Entails.of_eq (if_pos rfl))
  iintro H
  imod h $$ H with ⟨HI, Hat, HR, Ht, Hs⟩
  ihave #HR := hr $$ HR
  ihave HK := (BI.bigSep_exists_pi Finset.univ (fun (x : Dev nD × Fin 49) (κ : ℕ) => (cellInv ER (Rd D) κ (kcell x) : sProp 𝕄))) $$ HI
  icases HK with ⟨%Kc, #HI⟩
  ihave Hs := hs $$ Hs
  imod slots_alloc $$ Hs with ⟨%Ks, #HS, Hrd, Hw⟩
  ihave Hrd := (Entails.of_eq readers_dealt) $$ Hrd
  ihave Hw := writes_dealt $$ Hw
  imodintro
  have hd : ∀ c ∈ (Finset.univ : Finset (Dev nD)), iprop(ctx0 D ⟨Kc, Ks⟩ ∗ lin (F := F) c) ⊢ G' D c := fun c _ => by
    unfold G'
    iintro H
    iexists (⟨Kc, Ks⟩ : Names)
    iexact H
  iapply (with_persistent hd)
  isplitr
  · unfold ctx0
    isplitr; · iexact HI
    isplitr; · iexact HR
    iexact HS
  iapply (lin_all (F := F))
  isplitl [Hat]; · iexact Hat
  isplitl [Ht]; · iexact Ht
  isplitl [Hrd]; · iexact Hrd
  iexact Hw

/-! ## The credits -/

/-- What a device owes at the start. -/
abbrev O₀ (c : Dev nD) : CellTallies nD τ sig ℕ := O c 1
theorem O₀_eq : O₀ d = ∑ p : Pay, owe d p := by
  unfold O₀ O
  rw [Finset.filter_true_of_mem (p := fun p => 1 ≤ pos p) fun p _ => pos_pos p]

theorem owed_all (c : Dev nD) (sm : SemLoc sig) (i : ℕ) :
    launchCredit (Pipeline.owing O₀) 0 ((c : Thread nD τ), sm) i = ∑ p : Pay, tallyAt (payCell c p) (pos p) (payAmt p) ((c : Thread nD τ), sm) i := by
  rw [Pipeline.launchCredit_owing]
  have h : ∀ d : Dev nD, O₀ d ((c : Thread nD τ), sm) i = ∑ p : Pay, owe d p ((c : Thread nD τ), sm) i := fun d => by
    rw [O₀_eq, Finset.sum_apply, Finsupp.finset_sum_apply]
  rw [Finset.sum_congr rfl fun d _ => h d, Finset.sum_comm]
  refine Finset.sum_congr rfl fun p _ => ?_
  unfold owe
  rw [Finset.sum_eq_single (payBy c p) (fun d _ hd => ?_) (fun hn => absurd (Finset.mem_univ _) hn), payTo_payBy]
  rw [tallyAt_apply]
  refine if_neg fun h => hd ?_
  have e : c = payTo d p := congrArg (fun g : GSem nD τ sig => g.1.1) h.1
  rw [e, payBy_payTo]

theorem launch_all (c : Dev nD) :
    (∑ sm : SemLoc sig, tallyOn ((c : Thread nD τ), sm) (launchCredit (Pipeline.owing O₀) 0 ((c : Thread nD τ), sm)))
      = ∑ p : Pay, (tallyAt (payCell c p) (pos p) (payAmt p) : CellTallies nD τ sig ℕ) := by
  refine funext fun g => Finsupp.ext fun i => ?_
  rw [Finset.sum_apply, Finsupp.finset_sum_apply, Finset.sum_apply, Finsupp.finset_sum_apply]
  by_cases hg : g.1 = (c : Thread nD τ)
  · obtain ⟨t, sm⟩ := g
    obtain rfl : t = (c : Thread nD τ) := hg
    rw [Finset.sum_eq_single sm (fun sm' _ hne => ?_) (fun hn => absurd (Finset.mem_univ _) hn)]
    · unfold tallyOn; rw [Pi.single_eq_same]; exact owed_all c sm i
    · unfold tallyOn; rw [Pi.single_eq_of_ne (fun h => hne (congrArg Prod.snd h).symm)]; rfl
  · rw [Finset.sum_eq_zero fun sm _ => ?_, Finset.sum_eq_zero fun p _ => ?_]
    · rw [tallyAt_apply]; exact if_neg fun h => hg (congrArg Prod.fst h.1)
    · unfold tallyOn; rw [Pi.single_eq_of_ne (fun h => hg (congrArg Prod.fst h))]; rfl

theorem creds_intro (c : Dev nD) : (Pipeline.launchCred O₀ c : sProp 𝕄) = creds c := by
  unfold Pipeline.launchCred creds crd
  rw [← SparseCore.Cfg.cred_finsum, ← SparseCore.Cfg.cred_finsum, launch_all]

end Cert.KernelIdeal.Mesh

end
-- ==== Proof.Mesh.BodyEq.lean ====
/- The printed body is the staged one. -/
module

public import proofs.«01_k».proof.Proof.Mesh.Prog

@[expose] public section

set_option maxRecDepth 65536

namespace Cert.KernelIdeal.Mesh

open Idealize.ShloMosaic Idealize.SL.Sem Cert.KernelIdeal Cert.KernelIdeal.Gen

variable {F : FTy → Type} [FloatOps F]

theorem body_eq (t : Fin cfg0.N) : (bodyAt0 t : P F) = body := by
  chain_rfl

end Cert.KernelIdeal.Mesh

end
-- ==== Proof.Mesh.Launch.lean ====
/- The launch assembled: the body obligation, and the run with what the arrays hold after it. -/
module

public import proofs.«01_k».proof.Proof.Mesh.Fund
public import proofs.«01_k».proof.Proof.Mesh.BodyEq
public import Idealize.ShloMosaic.Lib.Pipeline.CollectiveSegs

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
variable (c : Dev nD)

/-! ## The windows' contents -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The operands as each device stages them. -/
def dataOf : Data F where
  x d := iblk m d (0 : Fin 5) t₀
  w d := iblk m d (1 : Fin 5) t₀
  sx d := iblk m d (2 : Fin 5) t₀
  sw d := iblk m d (3 : Fin 5) t₀

/-- What a device's body starts from, but for its buffers. -/
def start : sProp 𝕄 := iprop((∃ K, ctx (dataOf m) K ∗ lin (F := F) c) ∗ creds (F := F) c)
def Φ₀ : sProp 𝕄 := iprop(start m c ∗ scr (F := F) c)
/-- After the body: every counter at zero. -/
def Φ₁ : sProp 𝕄 := iprop((bigSep Finset.univ fun i : Fin 49 => semVal (kcell (c, i)) 0) ∗ scr (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (dataOf m).x c
    | ⟨1, _⟩ => (dataOf m).w c
    | ⟨2, _⟩ => (dataOf m).sx c
    | ⟨3, _⟩ => (dataOf m).sw c
    | ⟨4, _⟩ => outC (dataOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp (MT nD τ sig ℕ (Elt F) ℕ UU ℕ)) : bigSep Finset.univ Φ = iprop(Φ (0 : Fin 5) ∗ Φ (1 : Fin 5) ∗ Φ (2 : Fin 5) ∗ Φ (3 : Fin 5) ∗ Φ (4 : Fin 5)) := bigSep_W0 Φ
theorem owns_whole_eq (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
theorem pt_whole (b : Ref sig .tc) (q) (f : Buf (Elt F) (((c : Dev nD) : Thread nD τ).loc b)) :
    pt (F := F) c (Memref.whole b) q f = (((c : Thread nD τ).loc b) ↦{q} f) := by
  unfold pt; simp only [Memref.view_whole, View.set_whole]

theorem share_eq (w : Fin cfg0.W) : (dats m ρ 0 c).share w = fullShare := by unfold Dat.share; split <;> rfl

theorem before_0 (e) : (dats m ρ 0 c).before (0 : Fin 5) t₀ e = (dataOf m).x c := by unfold Dat.before; rw [if_pos (fetch0_0 t₀)]; rfl
theorem before_1 (e) : (dats m ρ 0 c).before (1 : Fin 5) t₀ e = (dataOf m).w c := by unfold Dat.before; rw [if_pos (fetch0_1 t₀)]; rfl
theorem before_2 (e) : (dats m ρ 0 c).before (2 : Fin 5) t₀ e = (dataOf m).sx c := by unfold Dat.before; rw [if_pos (fetch0_2 t₀)]; rfl
theorem before_3 (e) : (dats m ρ 0 c).before (3 : Fin 5) t₀ e = (dataOf m).sw c := by unfold Dat.before; rw [if_pos (fetch0_3 t₀)]; rfl

/-- A staging buffer at given contents. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stg_intro (b : Ref sig .tc) (X : b.ty.Contents (Elt F)) : pt (F := F) c (Memref.whole b) fullShare X ⊢ stg c b X := by
  rw [pt_whole]
  iintro H
  iexists X
  isplitr; · (ipureintro; rfl)
  iexact H

def bodyPre : sProp 𝕄 :=
  iprop(Φ₀ m c ∗ (dats m ρ 0 c).owesAt 0 t₀.castSucc
    ∗ (∃ e, stg c cc0_stg0_0 ((dats m ρ 0 c).before (0 : Fin 5) t₀ e))
    ∗ (∃ e, stg c cc0_stg1_0 ((dats m ρ 0 c).before (1 : Fin 5) t₀ e))
    ∗ (∃ e, stg c cc0_stg2_0 ((dats m ρ 0 c).before (2 : Fin 5) t₀ e))
    ∗ (∃ e, stg c cc0_stg3_0 ((dats m ρ 0 c).before (3 : Fin 5) t₀ e))
    ∗ (∃ e, stg c cc0_stg4_0 ((dats m ρ 0 c).before (4 : Fin 5) t₀ e)))
def bodyPost : sProp 𝕄 :=
  iprop(Φ₁ (F := F) c ∗ (dats m ρ 0 c).owesAt 0 t₀.succ ∗ stg c cc0_stg0_0 ((dataOf m).x c) ∗ stg c cc0_stg1_0 ((dataOf m).w c) ∗ stg c cc0_stg2_0 ((dataOf m).sx c)
    ∗ stg c cc0_stg3_0 ((dataOf m).sw c) ∗ stg c cc0_stg4_0 (outC (dataOf m) c))

theorem sound_body : bodyPre m ρ c ⊢ WP (F := F) c body fun _ => bodyPost m ρ c := by
  unfold bodyPre bodyPost Φ₀ Φ₁ start
  iintro ⟨⟨⟨⟨%K, #Hc, Hlin⟩, Hcr⟩, Hscr⟩, Ho, ⟨%e0, %g0, %hg0, H0⟩, ⟨%e1, %g1, %hg1, H1⟩, ⟨%e2, %g2, %hg2, H2⟩, ⟨%e3, %g3, %hg3, H3⟩, ⟨%e4, %g4, -, H4⟩⟩
  rw [before_0] at hg0
  rw [before_1] at hg1
  rw [before_2] at hg2
  rw [before_3] at hg3
  subst hg0 hg1 hg2 hg3
  unfold Dat.owesAt Pipeline.owesWithin
  icases Ho with ⟨%W, -, HO⟩
  rw [show (dats m ρ 0 c).owed t₀.castSucc = O c 1 from rfl, show (dats m ρ 0 c).owed t₀.succ = O c 87 from (O_end c).symm]
  imod (device_start (dataOf m) K c) $$ [Hlin Hcr Hscr] with ⟨Hm, HS, Hk⟩
  · isplitr; · iexact Hc
    isplitl [Hlin]; · iexact Hlin
    isplitl [Hcr]; · iexact Hcr
    iexact Hscr
  unfold body
  rw [wp_deviceId]
  iapply (body_run (dataOf m) K c _) $$ [HO Hm H0 H1 H2 H3 H4 HS]
  · isplitr; · iexact Hc
    isplitl [HO]; · unfold ow; iexists W; iexact HO
    isplitl [Hm]; · iexact Hm
    isplitl [H0 H1 H2 H3]
    · unfold ins
      rw [pt_whole, pt_whole, pt_whole, pt_whole]
      isplitl [H0 H1]
      · isplitl [H0]; · iexact H0
        iexact H1
      isplitl [H2]; · iexact H2
      iexact H3
    isplitl [H4]
    · unfold anyPt; iexists g4; rw [pt_whole]; iexact H4
    iexact HS
  iintro ⟨HO, Hbar, HI, HR, HA⟩
  imod (device_end (dataOf m) K c) $$ [Hbar HR HA Hk] with ⟨Hsem, Hscr, Hout⟩
  · isplitr; · iexact Hc
    isplitl [Hbar]; · iexact Hbar
    isplitl [HR]; · iexact HR
    isplitl [HA]; · iexact HA
    iexact Hk
  rw [wp_ret]
  imodintro
  unfold ow ins
  icases HO with ⟨%W', HO⟩
  icases HI with ⟨⟨H0, H1⟩, H2, H3⟩
  isplitl [Hsem Hscr]
  · isplitl [Hsem]; · iexact Hsem
    iexact Hscr
  isplitl [HO]
  · iexists W'
    isplitr; · (ipureintro; exact fun _ _ => Or.inl trivial)
    iexact HO
  isplitl [H0]; · iapply stg_intro; iexact H0
  isplitl [H1]; · iapply stg_intro; iexact H1
  isplitl [H2]; · iapply stg_intro; iexact H2
  isplitl [H3]; · iapply stg_intro; iexact H3
  iapply stg_intro; iexact Hout

set_option maxRecDepth 65536 in
/-- The library's body obligation. -/
theorem body_obligation : BodyObligation (dats (F := F) m ρ 0 c) (defs₀ (F := F)) 𝒱₀ 0 Set.univ := fun t => by
  rw [fin_N t]
  rw [bigSep_W, bigSep_W]
  simp only [owns_whole_eq]
  show bodyPre m ρ c ⊢ WP (F := F) c (bodyAt0 t₀) fun _ => bodyPost m ρ c
  rw [body_eq]
  exact sound_body m ρ c

/-! ## The theorem's side conditions -/

theorem ownSemFacts : Pipeline.OwnSemFacts cfg0.spec osem := by decide +kernel

theorem start_intro :
    iprop(Pipeline.unscopedRestP Pipeline.Prefetch.none cfg0.spec c (fun b => m ((c : Thread nD τ).loc b)) ∗ levAts L lv
        ∗ Pipeline.launchCred O₀ c ∗ prngReg c (ρ c) ∗ G' (dataOf m) c)
      ⊢ |={Set.univ}=> iprop(start m c ∗ emp) := by
  rw [creds_intro]
  unfold start G'
  iintro ⟨-, Hlev, Hcr, -, ⟨%K, HK, Hl⟩⟩
  imodintro
  isplitl
  · isplitr [Hcr]
    · iexists K
      isplitl [HK Hlev]
      · iapply (ctx_intro (dataOf m) K)
        isplitl [HK]; · iexact HK
        iexact Hlev
      iexact Hl
    iexact Hcr
  · iempintro

theorem scr_eq : (Pipeline.scopedRest (Ix := ℕ) (Name := ℕ) (U := UU) (Lvl := ℕ) (Val := Elt F) spec0 c : sProp 𝕄) ⊣⊢ scr (F := F) c := by
  have h (b : Ref sig .tc) : anyPt (F := F) c (Memref.whole b) = iprop(∃ f : Buf (Elt F) ((c : Thread nD τ).loc b), ((c : Thread nD τ).loc b) ↦{fullShare} f) := by
    unfold anyPt
    exact congrArg _ (funext fun f => pt_whole c b fullShare f)
  rw [scopedRest0_eq]
  unfold scr memS all4 commM stageM
  simp only [h]
  constructor
  · iintro ⟨Hg, H1, H2, H3, H4, H5, H6, H7, H8⟩
    isplitl [Hg]; · iexact Hg
    isplitl [H1 H5]
    · isplitl [H1]; · iexact H1
      iexact H5
    isplitl [H2 H6]
    · isplitl [H2]; · iexact H2
      iexact H6
    isplitl [H3 H7]
    · isplitl [H3]; · iexact H3
      iexact H7
    isplitl [H4]; · iexact H4
    iexact H8
  · iintro ⟨Hg, ⟨H1, H5⟩, ⟨H2, H6⟩, ⟨H3, H7⟩, H4, H8⟩
    isplitl [Hg]; · iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scr_eq c).1; iexact Hr

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [sems_eq]
  iintro ⟨⟨Hu, Ho⟩, Hr⟩
  isplitl [Hu]; · iexact Hu
  isplitl [Ho]; · iexact Ho
  iapply (scr_eq c).2; iexact Hr

theorem waits : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 1 (by decide) (by decide)
    · show (levAts L lv : sProp 𝕄) ⊢ MayWait (c : Thread nD τ) _ 0 0
      rw [← O_end c]
      exact mayWait c _ 0 87 (by decide) (by decide)

/-! ## The run -/

def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- Every fair run of the eight devices ends, with the arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun c => (main_chain c).trans rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (dataOf m)) (G' := G' (dataOf m)) (u₀ := u₀)
    (hu₀ := fund_all (dataOf m))
    (hglob := glob (dataOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Mesh

end
-- ==== Proof.Mesh.Frames.lean ====
/- What every run leaves: the arguments as they were, the counters at zero, the result as computed. -/
module

public import proofs.«01_k».proof.Proof.Mesh.Launch

@[expose] public section

noncomputable section

namespace Cert.KernelIdeal.Mesh

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The arguments are as they were. -/
abbrev Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

theorem kept_of {r : PUnit × MemSt nD τ sig (Elt F)} (h : QC m ρ r) : Kept m r := fun c =>
  ⟨(h c 0).trans ((dats m ρ 0 c).arrAt_in 0 rfl _), (h c 1).trans ((dats m ρ 0 c).arrAt_in 1 rfl _),
    (h c 2).trans ((dats m ρ 0 c).arrAt_in 2 rfl _), (h c 3).trans ((dats m ρ 0 c).arrAt_in 3 rfl _)⟩

/-- Every run ends, with the arguments kept and every counter at zero. -/
theorem frames : θ_run (defs (F := F)) (onTc (τ := τ) (main (F := F))) ⟨m, fun _ => 0, ρ⟩ (fun r => Kept m r ∧ r.2.sem = fun _ => 0) :=
  (θ_run defs _ _).mono (fun _ h => ⟨kept_of m ρ h.1, h.2⟩) (run_main m ρ)

end Cert.KernelIdeal.Mesh

end
-- ==== Proof.Mesh.Transfer.lean ====
/- The program as printed runs as its idealization does: the two are one text. -/
module

public import proofs.«01_k».proof.Defs
public import proofs.«01_k».proof.Proof.Gen.Kernel
public import proofs.«01_k».proof.Proof.Mesh.Frames

@[expose] public section

noncomputable section

namespace Cert.Kernel.Mesh

open Idealize.ShloMosaic Idealize.ShloMosaic.TcCoe Idealize.SL.Sem

variable {F : FTy → Type} [FloatOps F]

theorem body_eq : @Cert.Kernel.cc0_body F _ Cert.Kernel.Gen.facts = @Cert.KernelIdeal.cc0_body F _ Cert.KernelIdeal.Gen.facts := rfl
theorem defs0_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    dsimp only
    rw [body_eq]
  | ⟨_ + 1, h⟩, _ => exact absurd h (Nat.not_lt.2 (Nat.le_add_left _ _))
theorem defs_eq : Cert.Kernel.defs (F := F) = Cert.KernelIdeal.defs (F := F) := congrArg (Pipeline.defs Cert.KernelIdeal.pcfgs) defs0_eq

theorem frames (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_eq]
  exact Cert.KernelIdeal.Mesh.frames (F := F) m ρ

end Cert.Kernel.Mesh

end
-- ==== Proof.Mesh.Sum.lean ====
/- The result in exact arithmetic: each entry is the sum over all devices of their products, scaled and clipped at zero. -/
module

public import proofs.«01_k».proof.Proof.Mesh.Vals
public import Idealize.ShloMosaic.Lib.ValueIdx
public import Idealize.ShloMosaic.Lib.MatmulPlain
public import Idealize.ShloMosaic.PureOps.Ideal.Laws
public import Idealize.ShloMosaic.Lib.Pipeline.Value

@[expose] public section

noncomputable section

namespace Cert.KernelIdeal.Mesh

open Idealize.ShloMosaic Idealize.SL.Sem Cert.KernelIdeal Cert.KernelIdeal.Gen
open Idealize.ShloMosaic.ValueIdx
open scoped BigOperators

variable (D : Data Ideal)

/-! ## One device's product -/

/-- The left factor's columns on a device, as numbers. -/
def xs (d : Dev nD) : S4096x512.Idx → EReal := D.x d
/-- The right factor's rows on a device, as numbers. -/
def ws (d : Dev nD) : S512x2048.Idx → EReal := D.w d
/-- A device's product, as numbers. -/
def ps (d : Dev nD) : S4096x2048.Idx → EReal := prodC D d
/-- A device's scale, as a number. -/
def sc (d : Dev nD) : EReal := scale D d
/-- The result on a device, as numbers. -/
def os (d : Dev nD) : S4096x2048.Idx → EReal := outC D d

theorem mulPay_apply (x : Vec Ideal S512x512 .fp8e4m3) (w : Vec Ideal S512x2048 .fp8e5m2) (r : Fin 512) (c : Fin 2048) :
    mulPay x w (ix2 r c) = ∑ l : Fin 512, (x (ix2 r l) : EReal) * w (ix2 l c) := by
  unfold mulPay
  rw [show dot_S512x512_S512x2048_S512x2048_1_0_0_1_n_n = DotDims.plain 512 512 2048 from rfl]
  simp only [matmul]
  rw [Ideal.matmul_plain_apply, constant_apply, Ideal.ofBits_zero_f32, zero_add]
  refine Finset.sum_congr rfl fun l _ => ?_
  rw [extf_apply, extf_apply, shapeCast_self, shapeCast_self]

/-- An entry of a device's product. -/
theorem ps_apply (d : Dev nD) (i : S4096x2048.Idx) :
    ps D d i = ∑ l : Fin 512, xs D d (ix2 (i 0) l) * ws D d (ix2 l (i 1)) := by
  unfold ps prodC ofChunks prod
  refine (mulPay_apply _ _ _ _).trans (Finset.sum_congr rfl fun l _ => ?_)
  have e : (xM.view.readAt (Elt Ideal) (Rect.unit (s := S4096x512) (chunkOff ⟨(i 0).val / 512, by have := idx2_lt0 (n0 := 4096) (n1 := 2048) i; omega⟩) S512x512.size (chunkOff_inbX _)).toLoadRect (D.x d))
      (ix2 (n0 := 512) (n1 := 512) ⟨(i 0).val % 512, Nat.mod_lt _ (by decide)⟩ l) = D.x d (ix2 (n0 := 4096) (n1 := 512) (i 0) l) := by
    rw [View.readAt_apply]
    show D.x d _ = D.x d _
    refine congrArg (D.x d) (funext fun a => ?_)
    match a with
    | ⟨0, _⟩ => exact Fin.ext (by show 512 * ((i 0).val / 512) + 1 * ((i 0).val % 512) = (i 0).val; omega)
    | ⟨1, _⟩ => exact Fin.ext (by show 0 + 1 * l.val = l.val; omega)
  exact congrArg (fun z : EReal => z * ws D d (ix2 (n0 := 512) (n1 := 2048) l (i 1))) e

/-! ## The sum along the ring -/

/-- The `i`-th device that adds to strip `q` of chunk `k`. -/
def visit (k : Fin 8) (q : Fin 4) (i : ℕ) : Dev nD := ⟨(k.val + (if up q then i else 7 * i)) % 8, Nat.mod_lt _ (by decide)⟩

theorem visit_facts : ∀ (k : Fin 8) (q : Fin 4) (s : Fin 7), orig (visit k q (s.val + 1)) q = visit k q s.val ∧ rsChunk (visit k q (s.val + 1)) q s.val = k := by
  decide +kernel
theorem visit_first : ∀ (k : Fin 8) (q : Fin 4), mulChunk (visit k q 0) 0 = k := by decide +kernel
theorem visit_last : ∀ (k : Fin 8) (q : Fin 4), visit k q 7 = owner k q := by decide +kernel
theorem visit_bijective : ∀ (k : Fin 8) (q : Fin 4), Function.Bijective fun i : Fin 8 => visit k q i.val := by decide +kernel

theorem stagePay_apply (v : S128x2048.Idx → Elt Ideal .f32) (j : S128x2048.Idx) : stagePay v j = v j := by
  unfold stagePay narrow
  rw [shapeCast_self, truncf_apply, shapeCast_self]
theorem addIn_apply (v : S128x2048.Idx → Elt Ideal .f32) (g : S128x2048.Idx → Elt Ideal .bf16) (j : S128x2048.Idx) : addIn v g j = (v j : EReal) + g j := by
  unfold addIn narrow
  rw [shapeCast_self, truncf_apply, addf_apply, shapeCast_self, extf_apply]

theorem acc_apply (k : Fin 8) (q : Fin 4) (j : S128x2048.Idx) : ∀ s : ℕ, s ≤ 7 →
    acc D s (visit k q s) q j = ∑ i ∈ Finset.range (s + 1), (prodS D (visit k q i) k q j : EReal) := by
  intro s
  induction s with
  | zero => intro _; simp only [acc]; rw [stagePay_apply, visit_first]; simp
  | succ s ih =>
    intro hs
    obtain ⟨h1, h2⟩ := visit_facts k q ⟨s, by omega⟩
    simp only [acc]
    rw [addIn_apply, h1, h2, ih (by omega), Finset.sum_range_succ _ (s + 1), add_comm]

/-- A finished strip's entry: the sum over all the devices. -/
theorem fin_apply (k : Fin 8) (q : Fin 4) (j : S128x2048.Idx) : fin_ D k q j = ∑ d : Dev nD, (prodS D d k q j : EReal) := by
  unfold fin_
  rw [← visit_last, acc_apply D k q j 7 le_rfl, Finset.sum_range]
  exact (visit_bijective k q).sum_comp fun d => (prodS D d k q j : EReal)

/-! ## The result -/

theorem ofStrips_apply {α : Type} (X : Fin 8 → Fin 4 → S128x2048.Idx → α) (G : S4096x2048.Idx → α)
    (h : ∀ k q j, X k q j = G ((stripR k q).emb j)) (i : S4096x2048.Idx) : ofStrips X i = G i := by
  unfold ofStrips
  rw [h]
  refine congrArg G (funext fun a => ?_)
  match a with
  | ⟨0, _⟩ => exact Fin.ext (by rw [Rect.emb_apply]; show 512 * ((i 0).val / 512) + 128 * ((i 0).val / 128 % 4) + 1 * ((i 0).val % 128) = (i 0).val; omega)
  | ⟨1, _⟩ => exact Fin.ext (by rw [Rect.emb_apply]; show 0 + 1 * (i 1).val = (i 1).val; omega)

theorem os_apply (d : Dev nD) (i : S4096x2048.Idx) :
    os D d i = max ((∑ e : Dev nD, ps D e i) * sc D d) 0 := by
  unfold os outC
  refine ofStrips_apply _ (fun i => max ((∑ e : Dev nD, ps D e i) * sc D d) 0) (fun k q j => ?_) i
  unfold epiPay
  rw [maximumf_apply, mulf_apply, extf_apply, fin_apply]
  show max _ (Ideal.ofBits .f32 0x00000000#32) = _
  rw [Ideal.ofBits_zero_f32]
  rfl

end Cert.KernelIdeal.Mesh

end
-- ==== Proof.Mesh.Result.lean ====
/- The kernel's result array in exact arithmetic, in terms of the launch's arguments. -/
module

public import proofs.«01_k».proof.Proof.Mesh.Frames
public import proofs.«01_k».proof.Proof.Mesh.Sum
public import Idealize.ShloMosaic.Lib.Pipeline.ValueKit.Geometry

@[expose] public section

noncomputable section

namespace Cert.KernelIdeal.Mesh

open Cert.KernelIdeal Cert.KernelIdeal.Gen
open Idealize.ShloMosaic Idealize.ShloMosaic.TcCoe Idealize.SL.Sem
open Idealize.ShloMosaic.ValueIdx (ix2)
open scoped BigOperators

section Arrays

variable {F : FTy → Type} [FloatOps F]
variable (m : (ℓ : Loc nD τ sig) → Buf (Elt F) ℓ) (ρ : Dev nD → PrngReg) (c : Dev nD)

/-- A window's block is its whole array: each block's index is placed at itself. -/
theorem emb_x (z : S4096x512.Idx) : ((cfg0.win 0).blk t₀).view.emb z = z := by
  funext a; apply Fin.ext
  match a with
  | ⟨0, _⟩ => show 0 * 4096 + 1 * (z 0).val = (z 0).val; omega
  | ⟨1, _⟩ => show 0 * 512 + 1 * (z 1).val = (z 1).val; omega
theorem emb_w (z : S512x2048.Idx) : ((cfg0.win 1).blk t₀).view.emb z = z := by
  funext a; apply Fin.ext
  match a with
  | ⟨0, _⟩ => show 0 * 512 + 1 * (z 0).val = (z 0).val; omega
  | ⟨1, _⟩ => show 0 * 2048 + 1 * (z 1).val = (z 1).val; omega
theorem emb_sx (z : S1.Idx) : ((cfg0.win 2).blk t₀).view.emb z = z := by
  funext a; apply Fin.ext
  match a with
  | ⟨0, _⟩ => show 0 * 1 + 1 * (z 0).val = (z 0).val; omega
theorem emb_sw (z : S1.Idx) : ((cfg0.win 3).blk t₀).view.emb z = z := by
  funext a; apply Fin.ext
  match a with
  | ⟨0, _⟩ => show 0 * 1 + 1 * (z 0).val = (z 0).val; omega
theorem emb_out (z : S4096x2048.Idx) : (cfg0.win 4).arr.view.emb z = z := rfl

/-- What a device stages is its argument, whole. -/
theorem stage_x (z : S4096x512.Idx) : (dataOf m).x c z = m ((c.tc : Thread nD τ).loc main_arg0) z :=
  congrArg (V m c main_arg0) (emb_x z)
theorem stage_w (z : S512x2048.Idx) : (dataOf m).w c z = m ((c.tc : Thread nD τ).loc main_arg1) z :=
  congrArg (V m c main_arg1) (emb_w z)
theorem stage_sx (z : S1.Idx) : (dataOf m).sx c z = m ((c.tc : Thread nD τ).loc main_arg2) z :=
  congrArg (V m c main_arg2) (emb_sx z)
theorem stage_sw (z : S1.Idx) : (dataOf m).sw c z = m ((c.tc : Thread nD τ).loc main_arg3) z :=
  congrArg (V m c main_arg3) (emb_sw z)

/-- The result array after the run is what the body computes. -/
theorem final_out : finalA m ρ c (4 : Fin 5) = outC (dataOf m) c := by
  unfold finalA
  refine (dats m ρ 0 c).arrAt_eq_of_after_last (4 : Fin 5) t₀ (by decide +kernel) _ fun j => ?_
  rfl

end Arrays

section Numbers

variable (m : (ℓ : Loc nD τ sig) → Buf (Elt Ideal) ℓ) (c : Dev nD)

/-- The product of the two scales a device is given. -/
theorem scale_apply (z : S1.Idx) :
    sc (dataOf m) c = (show EReal from m ((c.tc : Thread nD τ).loc main_arg2) z) * (show EReal from m ((c.tc : Thread nD τ).loc main_arg3) z) := by
  have h (y : S1.Idx) : y = z := funext fun (a : Fin 1) => by
    obtain rfl : a = 0 := Subsingleton.elim _ _
    have h1 : (y 0).val < 1 := (y 0).isLt
    have h2 : (z 0).val < 1 := (z 0).isLt
    exact Fin.ext (by omega)
  unfold sc scale
  rw [View.readAt_apply, View.readAt_apply]
  show (show EReal from (dataOf m).sx c _) * (show EReal from (dataOf m).sw c _) = _
  rw [stage_sx, stage_sw]
  exact congrArg₂ (fun y y' : S1.Idx => (show EReal from m ((c.tc : Thread nD τ).loc main_arg2) y) * (show EReal from m ((c.tc : Thread nD τ).loc main_arg3) y')) (h _) (h _)

/-- An entry of a device's product, over its arguments. -/
theorem ps_args (i : S4096x2048.Idx) :
    ps (dataOf m) c i = ∑ l : Fin 512, (show EReal from m ((c.tc : Thread nD τ).loc main_arg0) (ix2 (n0 := 4096) (n1 := 512) (i 0) l))
      * (show EReal from m ((c.tc : Thread nD τ).loc main_arg1) (ix2 (n0 := 512) (n1 := 2048) l (i 1))) := by
  rw [ps_apply]
  exact Finset.sum_congr rfl fun l _ => congrArg₂ (fun a b : EReal => a * b) (stage_x m c _) (stage_w m c _)

end Numbers

end Cert.KernelIdeal.Mesh

end
-- ==== Proof.Spec.lean ====
/- The product, scaled and clipped at zero, as plain arithmetic; and its inner sum cut into the eight devices' parts. -/
module

public import Idealize.ShloMosaic.Lib.ValueIdxCore
public import Idealize.ShloMosaic.PureOps.Ideal.Laws

@[expose] public section

noncomputable section

namespace Cert.Spec

open Idealize.ShloMosaic
open Idealize.ShloMosaic.ValueIdx
open scoped BigOperators

/-- The clipped scaled product, entry by entry. -/
def spec (X : (⟨2, ![4096, 4096]⟩ : Shape).Idx → EReal) (W : (⟨2, ![4096, 2048]⟩ : Shape).Idx → EReal) (g : EReal)
    (r : Fin 4096) (c : Fin 2048) : EReal :=
  max ((∑ l : Fin 4096, X (ix2 r l) * W (ix2 l c)) * g) 0

/-- A sum over 4096 terms, cut into eight sums of 512. -/
theorem sum_split (f : Fin 4096 → EReal) :
    ∑ l : Fin 4096, f l = ∑ d : Fin 8, ∑ l : Fin 512, f ⟨d.val * 512 + l.val, by omega⟩ := by
  rw [← Fintype.sum_prod_type', ← Equiv.sum_comp (finProdFinEquiv (m := 8) (n := 512))]
  refine Finset.sum_congr rfl fun p _ => congrArg f (Fin.ext ?_)
  show p.2.val + 512 * p.1.val = p.1.val * 512 + p.2.val
  omega

end Cert.Spec

end
-- ==== Proof.RefResult.lean ====
/- The reference's result array in exact arithmetic, in terms of its arguments. -/
module

public import proofs.«01_k».proof.Proof.Gen.ReferenceIdeal.Value
public import proofs.«01_k».proof.Proof.Spec
public import Idealize.ShloMosaic.Lib.ValueIdx
public import Idealize.ShloMosaic.Lib.MatmulPlain
public import Idealize.ShloMosaic.Lib.VecWindow
public import Idealize.ShloMosaic.Lib.Pipeline.ValueKit.Tiles

@[expose] public section

noncomputable section

namespace Cert.ReferenceIdeal.Result

open Cert.ReferenceIdeal Cert.ReferenceIdeal.Gen
open Idealize.ShloMosaic Idealize.ShloMosaic.TcCoe Idealize.SL.Sem
open Idealize.ShloMosaic.ValueIdx
open scoped BigOperators

/-- The one point of the grid of no axis. -/
abbrev t₁ : Fin cfg0.N := ⟨0, by decide⟩

/-- An entry of what the body stores. -/
theorem pay_apply (x : Vec Ideal S4096x4096 .fp8e4m3) (w : Vec Ideal S4096x2048 .fp8e5m2) (a b : Elt Ideal .f32) (r : Fin 4096) (c : Fin 2048) :
    k0_pay1 x w a b (ix2 r c) = Spec.spec x w ((show EReal from a) * (show EReal from b)) r c := by
  unfold k0_pay1 Spec.spec
  dsimp only
  rw [maximumf_apply, mulf_apply, show dot_S4096x4096_S4096x2048_S4096x2048_1_0_0_1_n_n = DotDims.plain 4096 4096 2048 from rfl]
  simp only [matmul]
  rw [Ideal.matmul_plain_apply, constant_apply, Ideal.ofBits_zero_f32, zero_add]
  show max _ (Ideal.ofBits .f32 0x00000000#32) = _
  rw [Ideal.ofBits_zero_f32]
  rfl

theorem one_idx (y z : S1.Idx) : y = z := funext fun (a : Fin 1) => by
  obtain rfl : a = 0 := Subsingleton.elim _ _
  have h1 : (y 0).val < 1 := (y 0).isLt
  have h2 : (z 0).val < 1 := (z 0).isLt
  exact Fin.ext (by omega)

/-- What the run leaves in the result's buffer, entry by entry. -/
theorem out_apply (c : Dev nD) (arg0 : Memref sig .tc .vmem S4096x4096 .fp8e4m3) (harg0 : arg0.IsWhole) (arg1 : Memref sig .tc .vmem S4096x2048 .fp8e5m2) (harg1 : arg1.IsWhole)
    (arg2 : Memref sig .tc .smem S1 .f32) (harg2 : arg2.IsWhole) (arg3 : Memref sig .tc .smem S1 .f32) (harg3 : arg3.IsWhole) (arg4 : Memref sig .tc .vmem S4096x2048 .f32) (harg4 : arg4.IsWhole)
    (x0 : Vec Ideal S4096x4096 .fp8e4m3) (x1 : Vec Ideal S4096x2048 .fp8e5m2) (x2 x3 : Vec Ideal S1 .f32) (z : S1.Idx) (y : S4096x2048.Idx) :
    out0_A_4 c arg0 harg0 arg1 harg1 arg2 harg2 arg3 harg3 arg4 harg4 x0 x1 x2 x3 y = k0_pay1 x0 x1 (x2 z) (x3 z) y := by
  unfold out0_A_4 kernelRun0_A
  have h := View.read_writes_cons_emb (v := VO0_4) (f := VO0_4.junk) (Val := Elt Ideal)
    (Rect.unit (s := S4096x2048) ![0, 0] S4096x2048.size inb_S4096x2048_S4096x2048_0_0)
    (k0_pay1 (arg0.view.readAt (Elt Ideal) (Rect.unit (s := S4096x4096) ![0, 0] S4096x4096.size inb_S4096x4096_S4096x4096_0_0).toLoadRect (harg0.unread x0))
      (arg1.view.readAt (Elt Ideal) (Rect.unit (s := S4096x2048) ![0, 0] S4096x2048.size inb_S4096x2048_S4096x2048_0_0).toLoadRect (harg1.unread x1))
      (arg2.view.readAt (Elt Ideal) (Rect.unit (s := S1) ![0] S1.size inb_S1_S1_0).toLoadRect (harg2.unread x2) (Shape.Idx.first (numel1_S1.symm ▸ Nat.one_pos)))
      (arg3.view.readAt (Elt Ideal) (Rect.unit (s := S1) ![0] S1.size inb_S1_S1_0).toLoadRect (harg3.unread x3) (Shape.Idx.first (numel1_S1.symm ▸ Nat.one_pos)))) [] y
  rw [Rect.emb_unit_full] at h
  refine h.trans ?_
  have e0 : arg0.view.readAt (Elt Ideal) (Rect.unit (s := S4096x4096) ![0, 0] S4096x4096.size inb_S4096x4096_S4096x4096_0_0).toLoadRect (harg0.unread x0) = x0 := by
    funext i; rw [View.readAt_apply, harg0.read_unread]
    refine congrArg x0 (funext fun a => Fin.ext ?_)
    match a with
    | ⟨0, _⟩ => show 0 + 1 * (i 0).val = (i 0).val; omega
    | ⟨1, _⟩ => show 0 + 1 * (i 1).val = (i 1).val; omega
  have e1 : arg1.view.readAt (Elt Ideal) (Rect.unit (s := S4096x2048) ![0, 0] S4096x2048.size inb_S4096x2048_S4096x2048_0_0).toLoadRect (harg1.unread x1) = x1 := by
    funext i; rw [View.readAt_apply, harg1.read_unread]
    refine congrArg x1 (funext fun a => Fin.ext ?_)
    match a with
    | ⟨0, _⟩ => show 0 + 1 * (i 0).val = (i 0).val; omega
    | ⟨1, _⟩ => show 0 + 1 * (i 1).val = (i 1).val; omega
  have e2 (y) : arg2.view.readAt (Elt Ideal) (Rect.unit (s := S1) ![0] S1.size inb_S1_S1_0).toLoadRect (harg2.unread x2) y = x2 z := by
    rw [View.readAt_apply, harg2.read_unread]; exact congrArg x2 (one_idx _ _)
  have e3 (y) : arg3.view.readAt (Elt Ideal) (Rect.unit (s := S1) ![0] S1.size inb_S1_S1_0).toLoadRect (harg3.unread x3) y = x3 z := by
    rw [View.readAt_apply, harg3.read_unread]; exact congrArg x3 (one_idx _ _)
  rw [e0, e1, e2, e3]

variable (m : (ℓ : Loc nD τ sig) → Buf (Elt Ideal) ℓ) (c : Dev nD)

/-- A window's block is its whole array: each block's index is placed at itself. -/
theorem emb_x (z : S4096x4096.Idx) : ((cfg0.win 0).blk t₁).view.emb z = z := by
  funext a; apply Fin.ext
  match a with
  | ⟨0, _⟩ => show 0 * 4096 + 1 * (z 0).val = (z 0).val; omega
  | ⟨1, _⟩ => show 0 * 4096 + 1 * (z 1).val = (z 1).val; omega
theorem emb_w (z : S4096x2048.Idx) : ((cfg0.win 1).blk t₁).view.emb z = z := by
  funext a; apply Fin.ext
  match a with
  | ⟨0, _⟩ => show 0 * 4096 + 1 * (z 0).val = (z 0).val; omega
  | ⟨1, _⟩ => show 0 * 2048 + 1 * (z 1).val = (z 1).val; omega
theorem emb_out (z : S4096x2048.Idx) : ((cfg0.win 4).blk t₁).view.emb z = z := by
  funext a; apply Fin.ext
  match a with
  | ⟨0, _⟩ => show 0 * 4096 + 1 * (z 0).val = (z 0).val; omega
  | ⟨1, _⟩ => show 0 * 2048 + 1 * (z 1).val = (z 1).val; omega

theorem blk_x : iblk m c 0 t₁ = m ((c : Thread nD τ).loc main_arg0) := funext fun z => congrArg (V m c main_arg0) (emb_x z)
theorem blk_w : iblk m c 1 t₁ = m ((c : Thread nD τ).loc main_arg1) := funext fun z => congrArg (V m c main_arg1) (emb_w z)
theorem blk_sx (z : S1.Idx) : iblk m c 2 t₁ z = m ((c : Thread nD τ).loc main_arg2) z := congrArg (V m c main_arg2) (one_idx _ _)
theorem blk_sw (z : S1.Idx) : iblk m c 3 t₁ z = m ((c : Thread nD τ).loc main_arg3) z := congrArg (V m c main_arg3) (one_idx _ _)

/-- The result array at an entry. -/
theorem final_apply (z : S1.Idx) (r : Fin 4096) (l : Fin 2048) :
    (dats m 0 c).arrAt 4 cfg0.N (ix2 (n0 := 4096) (n1 := 2048) r l)
      = Spec.spec (m ((c : Thread nD τ).loc main_arg0)) (m ((c : Thread nD τ).loc main_arg1))
          ((show EReal from m ((c : Thread nD τ).loc main_arg2) z) * (show EReal from m ((c : Thread nD τ).loc main_arg3) z)) r l := by
  have b := congrFun (Value.blocks4 m c t₁ rfl) (ix2 (n0 := 4096) (n1 := 2048) r l)
  rw [Value.flushed4_A] at b
  have b' : (dats m 0 c).arrAt 4 cfg0.N (((cfg0.win 4).blk t₁).view.emb (ix2 (n0 := 4096) (n1 := 2048) r l)) = _ := b
  rw [emb_out] at b'
  refine b'.trans ((out_apply c _ _ _ _ _ _ _ _ _ _ _ _ _ _ z _).trans ((pay_apply _ _ _ _ r l).trans ?_))
  rw [blk_x, blk_w, blk_sx, blk_sw]

end Cert.ReferenceIdeal.Result

end
-- ==== Proof.Equal.lean ====
/- The two results are one array: the eight devices' partial products add up to the whole product. -/
module

public import proofs.«01_k».proof.Defs
public import proofs.«01_k».proof.Proof.Mesh.Result
public import proofs.«01_k».proof.Proof.RefResult

@[expose] public section

noncomputable section

namespace Cert.Proof

open Idealize.ShloMosaic Idealize.SL.Sem
open Idealize.ShloMosaic.ValueIdx (ix2 eq_ix2)
open scoped BigOperators

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The whole left factor. -/
abbrev X' : (⟨2, ![4096, 4096]⟩ : Shape).Idx → EReal := m' (((0 : Dev ReferenceIdeal.nD).tc : Thread ReferenceIdeal.nD ReferenceIdeal.τ).loc ReferenceIdeal.main_arg0)
/-- The whole right factor. -/
abbrev W' : (⟨2, ![4096, 2048]⟩ : Shape).Idx → EReal := m' (((0 : Dev ReferenceIdeal.nD).tc : Thread ReferenceIdeal.nD ReferenceIdeal.τ).loc ReferenceIdeal.main_arg1)
/-- The left factor's scale. -/
abbrev sx' : (⟨1, ![1]⟩ : Shape).Idx → EReal := m' (((0 : Dev ReferenceIdeal.nD).tc : Thread ReferenceIdeal.nD ReferenceIdeal.τ).loc ReferenceIdeal.main_arg2)
/-- The right factor's scale. -/
abbrev sw' : (⟨1, ![1]⟩ : Shape).Idx → EReal := m' (((0 : Dev ReferenceIdeal.nD).tc : Thread ReferenceIdeal.nD ReferenceIdeal.τ).loc ReferenceIdeal.main_arg3)

/-- Each device holds its part of the whole arrays. -/
def Parts : Prop := ∀ c : Dev KernelIdeal.nD,
  m ((c.tc : Thread KernelIdeal.nD KernelIdeal.τ).loc KernelIdeal.main_arg0) = Layout.block ⟨2, ![4096, 512]⟩ ⟨2, ![4096, 4096]⟩ 1 8 c (X' m')
  ∧ m ((c.tc : Thread KernelIdeal.nD KernelIdeal.τ).loc KernelIdeal.main_arg1) = Layout.block ⟨2, ![512, 2048]⟩ ⟨2, ![4096, 2048]⟩ 0 8 c (W' m')
  ∧ m ((c.tc : Thread KernelIdeal.nD KernelIdeal.τ).loc KernelIdeal.main_arg2) = sx' m'
  ∧ m ((c.tc : Thread KernelIdeal.nD KernelIdeal.τ).loc KernelIdeal.main_arg3) = sw' m'

/-- The products of all the devices add up to the whole product. -/
theorem sum_parts (h : Parts m m') (r : Fin 4096) (l : Fin 2048) :
    ∑ e : Dev KernelIdeal.nD, KernelIdeal.Mesh.ps (KernelIdeal.Mesh.dataOf m) e (ix2 r l) = ∑ k : Fin 4096, X' m' (ix2 r k) * W' m' (ix2 k l) := by
  rw [Spec.sum_split]
  refine Finset.sum_congr rfl fun d _ => ?_
  rw [KernelIdeal.Mesh.ps_args]
  refine Finset.sum_congr rfl fun k _ => ?_
  obtain ⟨h0, h1, -, -⟩ := h d
  rw [h0, h1]
  refine congrArg₂ (fun a b : EReal => a * b) (congrArg (X' m') (funext fun a => ?_)) (congrArg (W' m') (funext fun a => ?_))
  · match a with
    | ⟨0, _⟩ => exact Fin.ext rfl
    | ⟨1, _⟩ => exact Fin.ext rfl
  · match a with
    | ⟨0, _⟩ => exact Fin.ext rfl
    | ⟨1, _⟩ => exact Fin.ext rfl

/-- On every device the kernel's result is the reference's, entry by entry. -/
theorem equal_at (h : Parts m m') (c : Dev KernelIdeal.nD) (r : Fin 4096) (l : Fin 2048) :
    KernelIdeal.Mesh.os (KernelIdeal.Mesh.dataOf m) c (ix2 r l)
      = (ReferenceIdeal.Gen.dats m' 0 (0 : Dev ReferenceIdeal.nD)).arrAt 4 ReferenceIdeal.cfg0.N (ix2 (n0 := 4096) (n1 := 2048) r l) := by
  let z : (⟨1, ![1]⟩ : Shape).Idx := Shape.Idx.first (s := ⟨1, ![1]⟩) (by decide)
  obtain ⟨-, -, h2, h3⟩ := h c
  refine Eq.trans ?_ (ReferenceIdeal.Result.final_apply m' 0 z r l).symm
  rw [KernelIdeal.Mesh.os_apply, KernelIdeal.Mesh.scale_apply m c z, sum_parts m m' h, h2, h3]
  rfl

/-- On every device the kernel's result is the reference's. -/
theorem equal (h : Parts m m') (c : Dev KernelIdeal.nD) :
    KernelIdeal.Mesh.outC (KernelIdeal.Mesh.dataOf m) c = (ReferenceIdeal.Gen.dats m' 0 (0 : Dev ReferenceIdeal.nD)).arrAt 4 ReferenceIdeal.cfg0.N := by
  funext i
  obtain ⟨r, l, rfl⟩ : ∃ (r : Fin 4096) (l : Fin 2048), i = ix2 r l := ⟨i 0, i 1, eq_ix2 (n0 := 4096) (n1 := 2048) i⟩
  exact equal_at m m' h c r l

/-- The value claim: both run, and every device ends with the reference's result. -/
theorem same_result (ρ : Dev KernelIdeal.nD → PrngReg) (h : Parts m m') :
    θ_run (KernelIdeal.defs (F := Ideal)) (onTc (τ := KernelIdeal.τ) (KernelIdeal.main (F := Ideal))) ⟨m, fun _ => 0, ρ⟩ fun r => ∀ c : Dev KernelIdeal.nD,
      r.2.mem ((c.tc : Thread KernelIdeal.nD KernelIdeal.τ).loc KernelIdeal.main_v1)
        = (ReferenceIdeal.Gen.dats m' 0 (0 : Dev ReferenceIdeal.nD)).arrAt 4 ReferenceIdeal.cfg0.N
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3) :=
  (θ_run KernelIdeal.defs _ _).mono
    (fun _ hr c => ⟨((hr.1 c 4).trans (KernelIdeal.Mesh.final_out m ρ c)).trans (equal m m' h c), KernelIdeal.Mesh.kept_of m ρ hr.1 c⟩)
    (KernelIdeal.Mesh.run_main m ρ)

end Cert.Proof

end
-- ==== Proof.lean ====
/- Assembles the claims from their parts: the kernel's run on the mesh, its transfer to the program as compiled, the reference's run, and the equation of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Mesh.Frames
public import proofs.«01_k».proof.Proof.Mesh.Transfer
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Mesh.frames m ρ,
  fun m ρ _ => Cert.KernelIdeal.Mesh.frames m ρ,
  fun m ρ _ => Cert.ReferenceIdeal.Gen.frame m ρ,
  trivial,
  fun m ρ m' ρ' _ h => ⟨_, same_result m m' ρ h,
    (θ_run Cert.ReferenceIdeal.defs _ _).mono (fun _ hr => hr 0) (Cert.ReferenceIdeal.Value.run_blocks m' ρ')⟩⟩

end Cert.Proof

end
